-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scored [hPre_scored : Cert.Pre_scored.Facts] (m : (ℓ : Loc Cert.KernelIdeal.nD Cert.KernelIdeal.τ Cert.KernelIdeal.sig) → Buf (Elt Ideal) ℓ) : Prop :=
  ∀ c : Dev Cert.KernelIdeal.nD,
    (Cert.Pre_scored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scored [hPre_scored : Cert.Pre_scored.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scored.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_scored [hKernelIdeal : Cert.KernelIdeal.Facts] [hPre_scored : Cert.Pre_scored.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scored m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_scored [hReferenceIdeal : Cert.ReferenceIdeal.Facts] [hPre_scored : Cert.Pre_scored.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scored m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_scored [hKernelIdeal : Cert.KernelIdeal.Facts] [hReferenceIdeal : Cert.ReferenceIdeal.Facts] [hPre_scored : Cert.Pre_scored.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scored m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v510)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v510) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v659) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_scored : Cert.Pre_scored.Facts),
    quiescent_Kernel (hKernel := hKernel)
    ∧ quiescent_KernelIdeal (hKernelIdeal := hKernelIdeal)
    ∧ quiescent_KernelIdeal_pre_scored (hKernelIdeal := hKernelIdeal) (hPre_scored := hPre_scored)
    ∧ quiescent_ReferenceIdeal (hReferenceIdeal := hReferenceIdeal)
    ∧ quiescent_ReferenceIdeal_pre_scored (hReferenceIdeal := hReferenceIdeal) (hPre_scored := hPre_scored)
    ∧ preserves_Kernel_KernelIdeal
    ∧ algebraic_KernelIdeal_ReferenceIdeal_pre_scored (hKernelIdeal := hKernelIdeal) (hReferenceIdeal := hReferenceIdeal) (hPre_scored := hPre_scored)
-- ==== Pre_scored.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  reducesTo_S128_S_d0 : S128.ReducesTo [0] S_
  h_S_ : 0 < S_.numel

variable [Facts]

def fn {F : FTy → Type} [FloatOps F] (main_arg0 : FVec F S10000x128 .f32) (main_arg1 : IVec S2x320000 32) (main_arg2 : IVec S10000 32) (main_arg3 : FVec F S128x128 .f32) (main_arg4 : FVec F S128 .f32) (main_arg5 : FVec F S128 .f32) (main_arg6 : FVec F S128x128 .f32) (main_arg7 : FVec F S128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128 .f32) (main_arg15 : FVec F S256x128 .f32) (main_arg16 : FVec F S128 .f32) (main_arg17 : FVec F S128x64 .f32) (main_arg18 : FVec F S64 .f32) (main_arg19 : FVec F S64x10 .f32) (main_arg20 : FVec F S10 .f32) : IVec S_ 1 :=
  let main_v0 : FVec F S128 .f32 := mulf main_arg5 main_arg5
  let main_cst : FVec F S_ .f32 := constant S_ .f32 0x00000000#32
  let main_v1 : FVec F S_ .f32 := (fun x v => Host.reduceAdd x v reducesTo_S128_S_d0 h_S_) main_v0 main_cst
  let main_cst_0 : FVec F S_ .f32 := constant S_ .f32 0x00000000#32
  let main_v2 : IVec S_ 1 := cmpf .ogt main_v1 main_cst_0
  let main_v3 : FVec F S128 .f32 := mulf main_arg8 main_arg8
  let main_cst_1 : FVec F S_ .f32 := constant S_ .f32 0x00000000#32
  let main_v4 : FVec F S_ .f32 := (fun x v => Host.reduceAdd x v reducesTo_S128_S_d0 h_S_) main_v3 main_cst_1
  let main_cst_2 : FVec F S_ .f32 := constant S_ .f32 0x00000000#32
  let main_v5 : IVec S_ 1 := cmpf .ogt main_v4 main_cst_2
  let main_v6 : IVec S_ 1 := andi main_v2 main_v5
  let main_v7 : FVec F S128 .f32 := mulf main_arg11 main_arg11
  let main_cst_3 : FVec F S_ .f32 := constant S_ .f32 0x00000000#32
  let main_v8 : FVec F S_ .f32 := (fun x v => Host.reduceAdd x v reducesTo_S128_S_d0 h_S_) main_v7 main_cst_3
  let main_cst_4 : FVec F S_ .f32 := constant S_ .f32 0x00000000#32
  let main_v9 : IVec S_ 1 := cmpf .ogt main_v8 main_cst_4
  let main_v10 : IVec S_ 1 := andi main_v6 main_v9
  let main_v11 : FVec F S128 .f32 := mulf main_arg14 main_arg14
  let main_cst_5 : FVec F S_ .f32 := constant S_ .f32 0x00000000#32
  let main_v12 : FVec F S_ .f32 := (fun x v => Host.reduceAdd x v reducesTo_S128_S_d0 h_S_) main_v11 main_cst_5
  let main_cst_6 : FVec F S_ .f32 := constant S_ .f32 0x00000000#32
  let main_v13 : IVec S_ 1 := cmpf .ogt main_v12 main_cst_6
  let main_v14 : IVec S_ 1 := andi main_v10 main_v13
  main_v14
-- ==== Kernel.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x320000 : Shape := ⟨2, ![1, 320000]⟩
abbrev S320000 : Shape := ⟨1, ![320000]⟩
abbrev S10000x1 : Shape := ⟨2, ![10000, 1]⟩
abbrev S1x10000 : Shape := ⟨2, ![1, 10000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S16 : Shape := ⟨1, ![16]⟩
abbrev S16x256 : Shape := ⟨2, ![16, 256]⟩
abbrev S16x10000 : Shape := ⟨2, ![16, 10000]⟩
abbrev S16x128 : Shape := ⟨2, ![16, 128]⟩
abbrev S16x1 : Shape := ⟨2, ![16, 1]⟩
abbrev S1x64 : Shape := ⟨2, ![1, 64]⟩
abbrev S1x10 : Shape := ⟨2, ![1, 10]⟩
abbrev S16x10 : Shape := ⟨2, ![16, 10]⟩
abbrev S16x64 : Shape := ⟨2, ![16, 64]⟩

abbrev nBuf : Space → Nat
  | .hbm => 698
  | .vmem => 76
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128, .f32⟩
  | 6 => ⟨S128x128, .f32⟩
  | 7 => ⟨S128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128, .f32⟩
  | 15 => ⟨S256x128, .f32⟩
  | 16 => ⟨S128, .f32⟩
  | 17 => ⟨S128x64, .f32⟩
  | 18 => ⟨S64, .f32⟩
  | 19 => ⟨S64x10, .f32⟩
  | 20 => ⟨S10, .f32⟩
  | 21 => ⟨S1x320000, .i32⟩
  | 22 => ⟨S320000, .i32⟩
  | 23 => ⟨S1x320000, .i32⟩
  | 24 => ⟨S320000, .i32⟩
  | 25 => ⟨S10000x1, .i32⟩
  | 26 => ⟨S1x10000, .i32⟩
  | 27 => ⟨S_, .i1⟩
  | 28 => ⟨S10000, .i1⟩
  | 29 => ⟨S_, .i1⟩
  | 30 => ⟨S320000, .i1⟩
  | 31 => ⟨S10000x128, .f32⟩
  | 32 => ⟨S320000, .f32⟩
  | 33 => ⟨S_, .f32⟩
  | 34 => ⟨S10000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S10000, .f32⟩
  | 44 => ⟨S_, .f32⟩
  | 45 => ⟨S10000, .f32⟩
  | 46 => ⟨S10000, .f32⟩
  | 47 => ⟨S_, .f32⟩
  | 48 => ⟨S10000, .f32⟩
  | 49 => ⟨S10000, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000, .f32⟩
  | 68 => ⟨S320000, .f32⟩
  | 69 => ⟨S320000, .f32⟩
  | 70 => ⟨S_, .f32⟩
  | 71 => ⟨S10000x128, .f32⟩
  | 72 => ⟨S320000x1, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x128, .f32⟩
  | 82 => ⟨S320000x128, .f32⟩
  | 83 => ⟨S320000x128, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S10000x128, .f32⟩
  | 93 => ⟨S10000, .f32⟩
  | 94 => ⟨S10000x1, .f32⟩
  | 95 => ⟨S1x128, .f32⟩
  | 96 => ⟨S128x1, .f32⟩
  | 97 => ⟨S10000x128, .f32⟩
  | 98 => ⟨S10000x1, .f32⟩
  | 99 => ⟨S10000, .f32⟩
  | 100 => ⟨S_, .f32⟩
  | 101 => ⟨S_, .f32⟩
  | 102 => ⟨S10000, .f32⟩
  | 103 => ⟨S10000, .f32⟩
  | 104 => ⟨S10000, .f32⟩
  | 105 => ⟨S10000, .i32⟩
  | 106 => ⟨S10000, .i32⟩
  | 107 => ⟨S10000, .f32⟩
  | 108 => ⟨S10000, .i32⟩
  | 109 => ⟨S_, .i32⟩
  | 110 => ⟨S10000, .i32⟩
  | 111 => ⟨S_, .i32⟩
  | 112 => ⟨S16, .i32⟩
  | 113 => ⟨S10000x1, .i32⟩
  | 114 => ⟨S16, .i32⟩
  | 115 => ⟨S_, .i32⟩
  | 116 => ⟨S_, .i32⟩
  | 117 => ⟨S16, .i32⟩
  | 118 => ⟨S16, .i32⟩
  | 119 => ⟨S10000, .i32⟩
  | 120 => ⟨S_, .i32⟩
  | 121 => ⟨S10000, .i32⟩
  | 122 => ⟨S10000, .i1⟩
  | 123 => ⟨S_, .i32⟩
  | 124 => ⟨S10000, .i32⟩
  | 125 => ⟨S10000, .i32⟩
  | 126 => ⟨S10000, .i32⟩
  | 127 => ⟨S10000x1, .i32⟩
  | _ => ⟨S10000x128, .f32⟩

abbrev hbmTy0_1 (i : Nat) : BufTy := match i % 128 with
  | 0 => ⟨S10000, .i32⟩
  | 1 => ⟨S_, .i32⟩
  | 2 => ⟨S10000, .i32⟩
  | 3 => ⟨S10000, .i1⟩
  | 4 => ⟨S_, .i32⟩
  | 5 => ⟨S10000, .i32⟩
  | 6 => ⟨S10000, .i32⟩
  | 7 => ⟨S10000, .i32⟩
  | 8 => ⟨S10000x1, .i32⟩
  | 9 => ⟨S10000, .i32⟩
  | 10 => ⟨S10000, .i32⟩
  | 11 => ⟨S_, .i32⟩
  | 12 => ⟨S10000, .i32⟩
  | 13 => ⟨S_, .i32⟩
  | 14 => ⟨S10000, .i32⟩
  | 15 => ⟨S10000, .i1⟩
  | 16 => ⟨S_, .i32⟩
  | 17 => ⟨S10000, .i32⟩
  | 18 => ⟨S10000, .i32⟩
  | 19 => ⟨S10000, .i32⟩
  | 20 => ⟨S10000x1, .i32⟩
  | 21 => ⟨S10000, .i32⟩
  | 22 => ⟨S10000, .i32⟩
  | 23 => ⟨S_, .i32⟩
  | 24 => ⟨S16, .i32⟩
  | 25 => ⟨S10000x1, .i32⟩
  | 26 => ⟨S16, .i32⟩
  | 27 => ⟨S16, .f32⟩
  | 28 => ⟨S_, .f32⟩
  | 29 => ⟨S16, .f32⟩
  | 30 => ⟨S16, .f32⟩
  | 31 => ⟨S16, .f32⟩
  | 32 => ⟨S16, .i32⟩
  | 33 => ⟨S_, .i32⟩
  | 34 => ⟨S10000, .i32⟩
  | 35 => ⟨S10000, .i1⟩
  | 36 => ⟨S_, .i32⟩
  | 37 => ⟨S10000, .i32⟩
  | 38 => ⟨S10000, .i32⟩
  | 39 => ⟨S10000, .i32⟩
  | 40 => ⟨S10000x1, .i32⟩
  | 41 => ⟨S10000, .i32⟩
  | 42 => ⟨S10000, .i1⟩
  | 43 => ⟨S10000, .i1⟩
  | 44 => ⟨S10000, .f32⟩
  | 45 => ⟨S10000x1, .f32⟩
  | 46 => ⟨S10000x128, .f32⟩
  | 47 => ⟨S16x256, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000, .i1⟩
  | 57 => ⟨S320000, .i1⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000, .i1⟩
  | 67 => ⟨S320000, .i1⟩
  | 68 => ⟨S10000x128, .f32⟩
  | 69 => ⟨S320000, .f32⟩
  | 70 => ⟨S_, .f32⟩
  | 71 => ⟨S10000, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S10000, .f32⟩
  | 81 => ⟨S_, .f32⟩
  | 82 => ⟨S10000, .f32⟩
  | 83 => ⟨S10000, .f32⟩
  | 84 => ⟨S_, .f32⟩
  | 85 => ⟨S10000, .f32⟩
  | 86 => ⟨S10000, .f32⟩
  | 87 => ⟨S_, .i32⟩
  | 88 => ⟨S320000, .i32⟩
  | 89 => ⟨S320000, .i1⟩
  | 90 => ⟨S_, .i32⟩
  | 91 => ⟨S320000, .i32⟩
  | 92 => ⟨S320000, .i32⟩
  | 93 => ⟨S320000, .i32⟩
  | 94 => ⟨S320000x1, .i32⟩
  | 95 => ⟨S320000, .f32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S320000, .f32⟩
  | 105 => ⟨S320000, .f32⟩
  | 106 => ⟨S320000, .f32⟩
  | 107 => ⟨S_, .f32⟩
  | 108 => ⟨S10000x128, .f32⟩
  | 109 => ⟨S320000x1, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S320000x128, .f32⟩
  | 119 => ⟨S320000x128, .f32⟩
  | 120 => ⟨S320000x128, .f32⟩
  | 121 => ⟨S_, .i32⟩
  | 122 => ⟨S320000, .i32⟩
  | 123 => ⟨S320000, .i1⟩
  | 124 => ⟨S_, .i32⟩
  | 125 => ⟨S320000, .i32⟩
  | 126 => ⟨S320000, .i32⟩
  | 127 => ⟨S320000, .i32⟩
  | _ => ⟨S10000x128, .f32⟩

abbrev hbmTy0_2 (i : Nat) : BufTy := match i % 128 with
  | 0 => ⟨S320000x1, .i32⟩
  | 1 => ⟨S10000x128, .f32⟩
  | 2 => ⟨S10000, .f32⟩
  | 3 => ⟨S10000x1, .f32⟩
  | 4 => ⟨S1x128, .f32⟩
  | 5 => ⟨S128x1, .f32⟩
  | 6 => ⟨S10000x128, .f32⟩
  | 7 => ⟨S10000x1, .f32⟩
  | 8 => ⟨S10000, .f32⟩
  | 9 => ⟨S_, .f32⟩
  | 10 => ⟨S_, .f32⟩
  | 11 => ⟨S10000, .f32⟩
  | 12 => ⟨S10000, .f32⟩
  | 13 => ⟨S10000, .f32⟩
  | 14 => ⟨S10000, .i32⟩
  | 15 => ⟨S10000, .i32⟩
  | 16 => ⟨S10000, .f32⟩
  | 17 => ⟨S10000, .i32⟩
  | 18 => ⟨S_, .i32⟩
  | 19 => ⟨S10000, .i32⟩
  | 20 => ⟨S_, .i32⟩
  | 21 => ⟨S16, .i32⟩
  | 22 => ⟨S10000x1, .i32⟩
  | 23 => ⟨S16, .i32⟩
  | 24 => ⟨S_, .i32⟩
  | 25 => ⟨S_, .i32⟩
  | 26 => ⟨S16, .i32⟩
  | 27 => ⟨S16, .i32⟩
  | 28 => ⟨S10000, .i32⟩
  | 29 => ⟨S_, .i32⟩
  | 30 => ⟨S10000, .i32⟩
  | 31 => ⟨S10000, .i1⟩
  | 32 => ⟨S_, .i32⟩
  | 33 => ⟨S10000, .i32⟩
  | 34 => ⟨S10000, .i32⟩
  | 35 => ⟨S10000, .i32⟩
  | 36 => ⟨S10000x1, .i32⟩
  | 37 => ⟨S10000, .i32⟩
  | 38 => ⟨S_, .i32⟩
  | 39 => ⟨S10000, .i32⟩
  | 40 => ⟨S10000, .i1⟩
  | 41 => ⟨S_, .i32⟩
  | 42 => ⟨S10000, .i32⟩
  | 43 => ⟨S10000, .i32⟩
  | 44 => ⟨S10000, .i32⟩
  | 45 => ⟨S10000x1, .i32⟩
  | 46 => ⟨S10000, .i32⟩
  | 47 => ⟨S10000, .i32⟩
  | 48 => ⟨S_, .i32⟩
  | 49 => ⟨S10000, .i32⟩
  | 50 => ⟨S_, .i32⟩
  | 51 => ⟨S10000, .i32⟩
  | 52 => ⟨S10000, .i1⟩
  | 53 => ⟨S_, .i32⟩
  | 54 => ⟨S10000, .i32⟩
  | 55 => ⟨S10000, .i32⟩
  | 56 => ⟨S10000, .i32⟩
  | 57 => ⟨S10000x1, .i32⟩
  | 58 => ⟨S10000, .i32⟩
  | 59 => ⟨S10000, .i32⟩
  | 60 => ⟨S_, .i32⟩
  | 61 => ⟨S16, .i32⟩
  | 62 => ⟨S10000x1, .i32⟩
  | 63 => ⟨S16, .i32⟩
  | 64 => ⟨S16, .f32⟩
  | 65 => ⟨S_, .f32⟩
  | 66 => ⟨S16, .f32⟩
  | 67 => ⟨S16, .f32⟩
  | 68 => ⟨S16, .f32⟩
  | 69 => ⟨S16, .i32⟩
  | 70 => ⟨S_, .i32⟩
  | 71 => ⟨S10000, .i32⟩
  | 72 => ⟨S10000, .i1⟩
  | 73 => ⟨S_, .i32⟩
  | 74 => ⟨S10000, .i32⟩
  | 75 => ⟨S10000, .i32⟩
  | 76 => ⟨S10000, .i32⟩
  | 77 => ⟨S10000x1, .i32⟩
  | 78 => ⟨S10000, .i32⟩
  | 79 => ⟨S10000, .i1⟩
  | 80 => ⟨S10000, .i1⟩
  | 81 => ⟨S10000, .f32⟩
  | 82 => ⟨S10000x1, .f32⟩
  | 83 => ⟨S10000x128, .f32⟩
  | 84 => ⟨S16x256, .f32⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S320000, .i1⟩
  | 94 => ⟨S320000, .i1⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S320000, .i1⟩
  | 104 => ⟨S320000, .i1⟩
  | 105 => ⟨S10000x128, .f32⟩
  | 106 => ⟨S320000, .f32⟩
  | 107 => ⟨S_, .f32⟩
  | 108 => ⟨S10000, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S10000, .f32⟩
  | 118 => ⟨S_, .f32⟩
  | 119 => ⟨S10000, .f32⟩
  | 120 => ⟨S10000, .f32⟩
  | 121 => ⟨S_, .f32⟩
  | 122 => ⟨S10000, .f32⟩
  | 123 => ⟨S10000, .f32⟩
  | 124 => ⟨S_, .i32⟩
  | 125 => ⟨S320000, .i32⟩
  | 126 => ⟨S320000, .i1⟩
  | 127 => ⟨S_, .i32⟩
  | _ => ⟨S10000x128, .f32⟩

abbrev hbmTy0_3 (i : Nat) : BufTy := match i % 128 with
  | 0 => ⟨S320000, .i32⟩
  | 1 => ⟨S320000, .i32⟩
  | 2 => ⟨S320000, .i32⟩
  | 3 => ⟨S320000x1, .i32⟩
  | 4 => ⟨S320000, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S320000, .f32⟩
  | 14 => ⟨S320000, .f32⟩
  | 15 => ⟨S320000, .f32⟩
  | 16 => ⟨S_, .f32⟩
  | 17 => ⟨S10000x128, .f32⟩
  | 18 => ⟨S320000x1, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S320000x128, .f32⟩
  | 28 => ⟨S320000x128, .f32⟩
  | 29 => ⟨S320000x128, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S10000x128, .f32⟩
  | 39 => ⟨S10000, .f32⟩
  | 40 => ⟨S10000x1, .f32⟩
  | 41 => ⟨S1x128, .f32⟩
  | 42 => ⟨S128x1, .f32⟩
  | 43 => ⟨S10000x128, .f32⟩
  | 44 => ⟨S10000x1, .f32⟩
  | 45 => ⟨S10000, .f32⟩
  | 46 => ⟨S_, .f32⟩
  | 47 => ⟨S_, .f32⟩
  | 48 => ⟨S10000, .f32⟩
  | 49 => ⟨S10000, .f32⟩
  | 50 => ⟨S10000, .f32⟩
  | 51 => ⟨S10000, .i32⟩
  | 52 => ⟨S10000, .i32⟩
  | 53 => ⟨S10000, .f32⟩
  | 54 => ⟨S10000, .i32⟩
  | 55 => ⟨S_, .i32⟩
  | 56 => ⟨S10000, .i32⟩
  | 57 => ⟨S_, .i32⟩
  | 58 => ⟨S16, .i32⟩
  | 59 => ⟨S10000x1, .i32⟩
  | 60 => ⟨S16, .i32⟩
  | 61 => ⟨S_, .i32⟩
  | 62 => ⟨S_, .i32⟩
  | 63 => ⟨S16, .i32⟩
  | 64 => ⟨S16, .i32⟩
  | 65 => ⟨S10000, .i32⟩
  | 66 => ⟨S_, .i32⟩
  | 67 => ⟨S10000, .i32⟩
  | 68 => ⟨S10000, .i1⟩
  | 69 => ⟨S_, .i32⟩
  | 70 => ⟨S10000, .i32⟩
  | 71 => ⟨S10000, .i32⟩
  | 72 => ⟨S10000, .i32⟩
  | 73 => ⟨S10000x1, .i32⟩
  | 74 => ⟨S10000, .i32⟩
  | 75 => ⟨S_, .i32⟩
  | 76 => ⟨S10000, .i32⟩
  | 77 => ⟨S10000, .i1⟩
  | 78 => ⟨S_, .i32⟩
  | 79 => ⟨S10000, .i32⟩
  | 80 => ⟨S10000, .i32⟩
  | 81 => ⟨S10000, .i32⟩
  | 82 => ⟨S10000x1, .i32⟩
  | 83 => ⟨S10000, .i32⟩
  | 84 => ⟨S10000, .i32⟩
  | 85 => ⟨S_, .i32⟩
  | 86 => ⟨S10000, .i32⟩
  | 87 => ⟨S_, .i32⟩
  | 88 => ⟨S10000, .i32⟩
  | 89 => ⟨S10000, .i1⟩
  | 90 => ⟨S_, .i32⟩
  | 91 => ⟨S10000, .i32⟩
  | 92 => ⟨S10000, .i32⟩
  | 93 => ⟨S10000, .i32⟩
  | 94 => ⟨S10000x1, .i32⟩
  | 95 => ⟨S10000, .i32⟩
  | 96 => ⟨S10000, .i32⟩
  | 97 => ⟨S_, .i32⟩
  | 98 => ⟨S16, .i32⟩
  | 99 => ⟨S10000x1, .i32⟩
  | 100 => ⟨S16, .i32⟩
  | 101 => ⟨S16, .f32⟩
  | 102 => ⟨S_, .f32⟩
  | 103 => ⟨S16, .f32⟩
  | 104 => ⟨S16, .f32⟩
  | 105 => ⟨S16, .f32⟩
  | 106 => ⟨S16, .i32⟩
  | 107 => ⟨S_, .i32⟩
  | 108 => ⟨S10000, .i32⟩
  | 109 => ⟨S10000, .i1⟩
  | 110 => ⟨S_, .i32⟩
  | 111 => ⟨S10000, .i32⟩
  | 112 => ⟨S10000, .i32⟩
  | 113 => ⟨S10000, .i32⟩
  | 114 => ⟨S10000x1, .i32⟩
  | 115 => ⟨S10000, .i32⟩
  | 116 => ⟨S10000, .i1⟩
  | 117 => ⟨S10000, .i1⟩
  | 118 => ⟨S10000, .f32⟩
  | 119 => ⟨S10000x1, .f32⟩
  | 120 => ⟨S10000x128, .f32⟩
  | 121 => ⟨S16x256, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S10000x128, .f32⟩

abbrev hbmTy0_4 (i : Nat) : BufTy := match i % 128 with
  | 0 => ⟨S320000, .i32⟩
  | 1 => ⟨S320000x1, .i32⟩
  | 2 => ⟨S320000, .i1⟩
  | 3 => ⟨S320000, .i1⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S320000, .i1⟩
  | 13 => ⟨S320000, .i1⟩
  | 14 => ⟨S10000x128, .f32⟩
  | 15 => ⟨S320000, .f32⟩
  | 16 => ⟨S_, .f32⟩
  | 17 => ⟨S10000, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S10000, .f32⟩
  | 27 => ⟨S_, .f32⟩
  | 28 => ⟨S10000, .f32⟩
  | 29 => ⟨S10000, .f32⟩
  | 30 => ⟨S_, .f32⟩
  | 31 => ⟨S10000, .f32⟩
  | 32 => ⟨S10000, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000, .f32⟩
  | 51 => ⟨S320000, .f32⟩
  | 52 => ⟨S320000, .f32⟩
  | 53 => ⟨S_, .f32⟩
  | 54 => ⟨S10000x128, .f32⟩
  | 55 => ⟨S320000x1, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000x128, .f32⟩
  | 65 => ⟨S320000x128, .f32⟩
  | 66 => ⟨S320000x128, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S10000x128, .f32⟩
  | 76 => ⟨S10000, .f32⟩
  | 77 => ⟨S10000x1, .f32⟩
  | 78 => ⟨S1x128, .f32⟩
  | 79 => ⟨S128x1, .f32⟩
  | 80 => ⟨S10000x128, .f32⟩
  | 81 => ⟨S10000x1, .f32⟩
  | 82 => ⟨S10000, .f32⟩
  | 83 => ⟨S_, .f32⟩
  | 84 => ⟨S_, .f32⟩
  | 85 => ⟨S10000, .f32⟩
  | 86 => ⟨S10000, .f32⟩
  | 87 => ⟨S10000, .f32⟩
  | 88 => ⟨S10000, .i32⟩
  | 89 => ⟨S10000, .i32⟩
  | 90 => ⟨S10000, .f32⟩
  | 91 => ⟨S10000, .i32⟩
  | 92 => ⟨S_, .i32⟩
  | 93 => ⟨S10000, .i32⟩
  | 94 => ⟨S_, .i32⟩
  | 95 => ⟨S16, .i32⟩
  | 96 => ⟨S10000x1, .i32⟩
  | 97 => ⟨S16, .i32⟩
  | 98 => ⟨S_, .i32⟩
  | 99 => ⟨S_, .i32⟩
  | 100 => ⟨S16, .i32⟩
  | 101 => ⟨S16, .i32⟩
  | 102 => ⟨S10000, .i32⟩
  | 103 => ⟨S_, .i32⟩
  | 104 => ⟨S10000, .i32⟩
  | 105 => ⟨S10000, .i1⟩
  | 106 => ⟨S_, .i32⟩
  | 107 => ⟨S10000, .i32⟩
  | 108 => ⟨S10000, .i32⟩
  | 109 => ⟨S10000, .i32⟩
  | 110 => ⟨S10000x1, .i32⟩
  | 111 => ⟨S10000, .i32⟩
  | 112 => ⟨S_, .i32⟩
  | 113 => ⟨S10000, .i32⟩
  | 114 => ⟨S10000, .i1⟩
  | 115 => ⟨S_, .i32⟩
  | 116 => ⟨S10000, .i32⟩
  | 117 => ⟨S10000, .i32⟩
  | 118 => ⟨S10000, .i32⟩
  | 119 => ⟨S10000x1, .i32⟩
  | 120 => ⟨S10000, .i32⟩
  | 121 => ⟨S10000, .i32⟩
  | 122 => ⟨S_, .i32⟩
  | 123 => ⟨S10000, .i32⟩
  | 124 => ⟨S_, .i32⟩
  | 125 => ⟨S10000, .i32⟩
  | 126 => ⟨S10000, .i1⟩
  | 127 => ⟨S_, .i32⟩
  | _ => ⟨S10000x128, .f32⟩

abbrev hbmTy0_5 (i : Nat) : BufTy := match i % 128 with
  | 0 => ⟨S10000, .i32⟩
  | 1 => ⟨S10000, .i32⟩
  | 2 => ⟨S10000, .i32⟩
  | 3 => ⟨S10000x1, .i32⟩
  | 4 => ⟨S10000, .i32⟩
  | 5 => ⟨S10000, .i32⟩
  | 6 => ⟨S_, .i32⟩
  | 7 => ⟨S16, .i32⟩
  | 8 => ⟨S10000x1, .i32⟩
  | 9 => ⟨S16, .i32⟩
  | 10 => ⟨S16, .f32⟩
  | 11 => ⟨S_, .f32⟩
  | 12 => ⟨S16, .f32⟩
  | 13 => ⟨S16, .f32⟩
  | 14 => ⟨S16, .f32⟩
  | 15 => ⟨S16, .i32⟩
  | 16 => ⟨S_, .i32⟩
  | 17 => ⟨S10000, .i32⟩
  | 18 => ⟨S10000, .i1⟩
  | 19 => ⟨S_, .i32⟩
  | 20 => ⟨S10000, .i32⟩
  | 21 => ⟨S10000, .i32⟩
  | 22 => ⟨S10000, .i32⟩
  | 23 => ⟨S10000x1, .i32⟩
  | 24 => ⟨S10000, .i32⟩
  | 25 => ⟨S10000, .i1⟩
  | 26 => ⟨S10000, .i1⟩
  | 27 => ⟨S10000, .f32⟩
  | 28 => ⟨S10000x1, .f32⟩
  | 29 => ⟨S10000x128, .f32⟩
  | 30 => ⟨S16x256, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000, .i1⟩
  | 40 => ⟨S320000, .i1⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .i1⟩
  | 50 => ⟨S320000, .i1⟩
  | 51 => ⟨S16x256, .f32⟩
  | 52 => ⟨S16x256, .f32⟩
  | 53 => ⟨S16x256, .f32⟩
  | 54 => ⟨S1x128, .f32⟩
  | 55 => ⟨S1x64, .f32⟩
  | 56 => ⟨S1x10, .f32⟩
  | 57 => ⟨S16x10, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x1, .f32⟩
  | .local _ .vmem, ⟨6, _⟩ => ⟨S1x128, .f32⟩
  | .local _ .vmem, ⟨7, _⟩ => ⟨S128x1, .f32⟩
  | .local _ .vmem, ⟨8, _⟩ => ⟨S10000x128, .f32⟩
  | .local _ .vmem, ⟨9, _⟩ => ⟨S10000x1, .f32⟩
  | .local _ .vmem, ⟨10, _⟩ => ⟨S10000x128, .f32⟩
  | .local _ .vmem, ⟨11, _⟩ => ⟨S10000x1, .f32⟩
  | .local _ .vmem, ⟨12, _⟩ => ⟨S10000x1, .f32⟩
  | .local _ .vmem, ⟨13, _⟩ => ⟨S10000x1, .i32⟩
  | .local _ .vmem, ⟨14, _⟩ => ⟨S1x10000, .i32⟩
  | .local _ .vmem, ⟨15, _⟩ => ⟨S10000x128, .f32⟩
  | .local _ .vmem, ⟨16, _⟩ => ⟨S16x256, .f32⟩
  | .local _ .vmem, ⟨17, _⟩ => ⟨S10000x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x1, .f32⟩
  | .local _ .vmem, ⟨23, _⟩ => ⟨S1x128, .f32⟩
  | .local _ .vmem, ⟨24, _⟩ => ⟨S128x1, .f32⟩
  | .local _ .vmem, ⟨25, _⟩ => ⟨S10000x128, .f32⟩
  | .local _ .vmem, ⟨26, _⟩ => ⟨S10000x1, .f32⟩
  | .local _ .vmem, ⟨27, _⟩ => ⟨S10000x128, .f32⟩
  | .local _ .vmem, ⟨28, _⟩ => ⟨S10000x1, .f32⟩
  | .local _ .vmem, ⟨29, _⟩ => ⟨S10000x1, .f32⟩
  | .local _ .vmem, ⟨30, _⟩ => ⟨S10000x1, .i32⟩
  | .local _ .vmem, ⟨31, _⟩ => ⟨S1x10000, .i32⟩
  | .local _ .vmem, ⟨32, _⟩ => ⟨S10000x128, .f32⟩
  | .local _ .vmem, ⟨33, _⟩ => ⟨S16x256, .f32⟩
  | .local _ .vmem, ⟨34, _⟩ => ⟨S10000x128, .f32⟩
  | .local _ .vmem, ⟨35, _⟩ => ⟨S128x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x1, .f32⟩
  | .local _ .vmem, ⟨40, _⟩ => ⟨S1x128, .f32⟩
  | .local _ .vmem, ⟨41, _⟩ => ⟨S128x1, .f32⟩
  | .local _ .vmem, ⟨42, _⟩ => ⟨S10000x128, .f32⟩
  | .local _ .vmem, ⟨43, _⟩ => ⟨S10000x1, .f32⟩
  | .local _ .vmem, ⟨44, _⟩ => ⟨S10000x128, .f32⟩
  | .local _ .vmem, ⟨45, _⟩ => ⟨S10000x1, .f32⟩
  | .local _ .vmem, ⟨46, _⟩ => ⟨S10000x1, .f32⟩
  | .local _ .vmem, ⟨47, _⟩ => ⟨S10000x1, .i32⟩
  | .local _ .vmem, ⟨48, _⟩ => ⟨S1x10000, .i32⟩
  | .local _ .vmem, ⟨49, _⟩ => ⟨S10000x128, .f32⟩
  | .local _ .vmem, ⟨50, _⟩ => ⟨S16x256, .f32⟩
  | .local _ .vmem, ⟨51, _⟩ => ⟨S10000x128, .f32⟩
  | .local _ .vmem, ⟨52, _⟩ => ⟨S128x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S10000x1, .f32⟩
  | .local _ .vmem, ⟨57, _⟩ => ⟨S1x128, .f32⟩
  | .local _ .vmem, ⟨58, _⟩ => ⟨S128x1, .f32⟩
  | .local _ .vmem, ⟨59, _⟩ => ⟨S10000x128, .f32⟩
  | .local _ .vmem, ⟨60, _⟩ => ⟨S10000x1, .f32⟩
  | .local _ .vmem, ⟨61, _⟩ => ⟨S10000x128, .f32⟩
  | .local _ .vmem, ⟨62, _⟩ => ⟨S10000x1, .f32⟩
  | .local _ .vmem, ⟨63, _⟩ => ⟨S10000x1, .f32⟩
  | .local _ .vmem, ⟨64, _⟩ => ⟨S10000x1, .i32⟩
  | .local _ .vmem, ⟨65, _⟩ => ⟨S1x10000, .i32⟩
  | .local _ .vmem, ⟨66, _⟩ => ⟨S10000x128, .f32⟩
  | .local _ .vmem, ⟨67, _⟩ => ⟨S16x256, .f32⟩
  | .local _ .vmem, ⟨68, _⟩ => ⟨S16x256, .f32⟩
  | .local _ .vmem, ⟨69, _⟩ => ⟨S256x128, .f32⟩
  | .local _ .vmem, ⟨70, _⟩ => ⟨S1x128, .f32⟩
  | .local _ .vmem, ⟨71, _⟩ => ⟨S128x64, .f32⟩
  | .local _ .vmem, ⟨72, _⟩ => ⟨S1x64, .f32⟩
  | .local _ .vmem, ⟨73, _⟩ => ⟨S64x10, .f32⟩
  | .local _ .vmem, ⟨74, _⟩ => ⟨S1x10, .f32⟩
  | .local _ .vmem, ⟨75, _⟩ => ⟨S16x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_c_8 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_9 : Ref sig .tc := ⟨.hbm, 70, rfl⟩
abbrev main_v38 : Ref sig .tc := ⟨.hbm, 71, rfl⟩
abbrev main_v39 : Ref sig .tc := ⟨.hbm, 72, rfl⟩
abbrev main_c_10 : Ref sig .tc := ⟨.hbm, 73, rfl⟩
abbrev main_v40 : Ref sig .tc := ⟨.hbm, 74, rfl⟩
abbrev main_v41 : Ref sig .tc := ⟨.hbm, 75, rfl⟩
abbrev main_c_11 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_12 : Ref sig .tc := ⟨.hbm, 84, rfl⟩
abbrev main_v49 : Ref sig .tc := ⟨.hbm, 85, rfl⟩
abbrev main_v50 : Ref sig .tc := ⟨.hbm, 86, rfl⟩
abbrev main_c_13 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60_0 : Ref sig .tc := ⟨.hbm, 97, rfl⟩
abbrev main_v60_1 : Ref sig .tc := ⟨.hbm, 98, rfl⟩
abbrev main_v61 : Ref sig .tc := ⟨.hbm, 99, rfl⟩
abbrev main_cst_14 : Ref sig .tc := ⟨.hbm, 100, rfl⟩
abbrev main_call0_v0 : Ref sig .tc := ⟨.hbm, 101, rfl⟩
abbrev main_call0_v1 : Ref sig .tc := ⟨.hbm, 102, rfl⟩
abbrev main_v62 : Ref sig .tc := ⟨.hbm, 103, rfl⟩
abbrev main_v63 : Ref sig .tc := ⟨.hbm, 104, rfl⟩
abbrev main_call1_v0 : Ref sig .tc := ⟨.hbm, 105, rfl⟩
abbrev main_call1_v1_0 : Ref sig .tc := ⟨.hbm, 106, rfl⟩
abbrev main_call1_v1_1 : Ref sig .tc := ⟨.hbm, 107, rfl⟩
abbrev main_v64 : Ref sig .tc := ⟨.hbm, 108, rfl⟩
abbrev main_c_15 : Ref sig .tc := ⟨.hbm, 109, rfl⟩
abbrev main_v65 : Ref sig .tc := ⟨.hbm, 110, rfl⟩
abbrev main_c_16 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_call2_call0_c : Ref sig .tc := ⟨.hbm, 115, rfl⟩
abbrev main_call2_call0_v0 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_c_17 : Ref sig .tc := ⟨.hbm, 120, rfl⟩
abbrev main_v72 : Ref sig .tc := ⟨.hbm, 121, rfl⟩
abbrev main_v73 : Ref sig .tc := ⟨.hbm, 122, rfl⟩
abbrev main_c_18 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_c_19 : Ref sig .tc := ⟨.hbm, 129, rfl⟩
abbrev main_v79 : Ref sig .tc := ⟨.hbm, 130, rfl⟩
abbrev main_v80 : Ref sig .tc := ⟨.hbm, 131, rfl⟩
abbrev main_c_20 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_21 : Ref sig .tc := ⟨.hbm, 139, rfl⟩
abbrev main_v87 : Ref sig .tc := ⟨.hbm, 140, rfl⟩
abbrev main_c_22 : Ref sig .tc := ⟨.hbm, 141, rfl⟩
abbrev main_v88 : Ref sig .tc := ⟨.hbm, 142, rfl⟩
abbrev main_v89 : Ref sig .tc := ⟨.hbm, 143, rfl⟩
abbrev main_c_23 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_c_24 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_25 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_c_26 : Ref sig .tc := ⟨.hbm, 161, rfl⟩
abbrev main_v104 : Ref sig .tc := ⟨.hbm, 162, rfl⟩
abbrev main_v105 : Ref sig .tc := ⟨.hbm, 163, rfl⟩
abbrev main_c_27 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115_0 : Ref sig .tc := ⟨.hbm, 174, rfl⟩
abbrev main_v115_1 : Ref sig .tc := ⟨.hbm, 175, rfl⟩
abbrev main_c_28 : Ref sig .tc := ⟨.hbm, 176, rfl⟩
abbrev main_v116 : Ref sig .tc := ⟨.hbm, 177, rfl⟩
abbrev main_v117 : Ref sig .tc := ⟨.hbm, 178, rfl⟩
abbrev main_c_29 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_c_30 : Ref sig .tc := ⟨.hbm, 186, rfl⟩
abbrev main_v124 : Ref sig .tc := ⟨.hbm, 187, rfl⟩
abbrev main_v125 : Ref sig .tc := ⟨.hbm, 188, rfl⟩
abbrev main_c_31 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_32 : Ref sig .tc := ⟨.hbm, 198, rfl⟩
abbrev main_v134 : Ref sig .tc := ⟨.hbm, 199, rfl⟩
abbrev main_c_33 : Ref sig .tc := ⟨.hbm, 200, rfl⟩
abbrev main_v135 : Ref sig .tc := ⟨.hbm, 201, rfl⟩
abbrev main_v136 : Ref sig .tc := ⟨.hbm, 202, rfl⟩
abbrev main_c_34 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_cst_35 : Ref sig .tc := ⟨.hbm, 209, rfl⟩
abbrev main_v142 : Ref sig .tc := ⟨.hbm, 210, rfl⟩
abbrev main_v143 : Ref sig .tc := ⟨.hbm, 211, rfl⟩
abbrev main_cst_36 : Ref sig .tc := ⟨.hbm, 212, rfl⟩
abbrev main_v144 : Ref sig .tc := ⟨.hbm, 213, rfl⟩
abbrev main_v145 : Ref sig .tc := ⟨.hbm, 214, rfl⟩
abbrev main_c_37 : Ref sig .tc := ⟨.hbm, 215, rfl⟩
abbrev main_v146 : Ref sig .tc := ⟨.hbm, 216, rfl⟩
abbrev main_v147 : Ref sig .tc := ⟨.hbm, 217, rfl⟩
abbrev main_c_38 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_c_39 : Ref sig .tc := ⟨.hbm, 224, rfl⟩
abbrev main_v153 : Ref sig .tc := ⟨.hbm, 225, rfl⟩
abbrev main_v154 : Ref sig .tc := ⟨.hbm, 226, rfl⟩
abbrev main_c_40 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_cst_41 : Ref sig .tc := ⟨.hbm, 235, rfl⟩
abbrev main_v162 : Ref sig .tc := ⟨.hbm, 236, rfl⟩
abbrev main_v163 : Ref sig .tc := ⟨.hbm, 237, rfl⟩
abbrev main_c_42 : Ref sig .tc := ⟨.hbm, 238, rfl⟩
abbrev main_v164 : Ref sig .tc := ⟨.hbm, 239, rfl⟩
abbrev main_v165 : Ref sig .tc := ⟨.hbm, 240, rfl⟩
abbrev main_c_43 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_c_44 : Ref sig .tc := ⟨.hbm, 249, rfl⟩
abbrev main_v173 : Ref sig .tc := ⟨.hbm, 250, rfl⟩
abbrev main_v174 : Ref sig .tc := ⟨.hbm, 251, rfl⟩
abbrev main_c_45 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184_0 : Ref sig .tc := ⟨.hbm, 262, rfl⟩
abbrev main_v184_1 : Ref sig .tc := ⟨.hbm, 263, rfl⟩
abbrev main_v185 : Ref sig .tc := ⟨.hbm, 264, rfl⟩
abbrev main_cst_46 : Ref sig .tc := ⟨.hbm, 265, rfl⟩
abbrev main_call3_v0 : Ref sig .tc := ⟨.hbm, 266, rfl⟩
abbrev main_call3_v1 : Ref sig .tc := ⟨.hbm, 267, rfl⟩
abbrev main_v186 : Ref sig .tc := ⟨.hbm, 268, rfl⟩
abbrev main_v187 : Ref sig .tc := ⟨.hbm, 269, rfl⟩
abbrev main_call4_v0 : Ref sig .tc := ⟨.hbm, 270, rfl⟩
abbrev main_call4_v1_0 : Ref sig .tc := ⟨.hbm, 271, rfl⟩
abbrev main_call4_v1_1 : Ref sig .tc := ⟨.hbm, 272, rfl⟩
abbrev main_v188 : Ref sig .tc := ⟨.hbm, 273, rfl⟩
abbrev main_c_47 : Ref sig .tc := ⟨.hbm, 274, rfl⟩
abbrev main_v189 : Ref sig .tc := ⟨.hbm, 275, rfl⟩
abbrev main_c_48 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_call5_call0_c : Ref sig .tc := ⟨.hbm, 280, rfl⟩
abbrev main_call5_call0_v0 : Ref sig .tc := ⟨.hbm, 281, rfl⟩
abbrev main_v193 : Ref sig .tc := ⟨.hbm, 282, rfl⟩
abbrev main_v194 : Ref sig .tc := ⟨.hbm, 283, rfl⟩
abbrev main_v195 : Ref sig .tc := ⟨.hbm, 284, rfl⟩
abbrev main_c_49 : Ref sig .tc := ⟨.hbm, 285, rfl⟩
abbrev main_v196 : Ref sig .tc := ⟨.hbm, 286, rfl⟩
abbrev main_v197 : Ref sig .tc := ⟨.hbm, 287, rfl⟩
abbrev main_c_50 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_c_51 : Ref sig .tc := ⟨.hbm, 294, rfl⟩
abbrev main_v203 : Ref sig .tc := ⟨.hbm, 295, rfl⟩
abbrev main_v204 : Ref sig .tc := ⟨.hbm, 296, rfl⟩
abbrev main_c_52 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_c_53 : Ref sig .tc := ⟨.hbm, 304, rfl⟩
abbrev main_v211 : Ref sig .tc := ⟨.hbm, 305, rfl⟩
abbrev main_c_54 : Ref sig .tc := ⟨.hbm, 306, rfl⟩
abbrev main_v212 : Ref sig .tc := ⟨.hbm, 307, rfl⟩
abbrev main_v213 : Ref sig .tc := ⟨.hbm, 308, rfl⟩
abbrev main_c_55 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_c_56 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_cst_57 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_c_58 : Ref sig .tc := ⟨.hbm, 326, rfl⟩
abbrev main_v228 : Ref sig .tc := ⟨.hbm, 327, rfl⟩
abbrev main_v229 : Ref sig .tc := ⟨.hbm, 328, rfl⟩
abbrev main_c_59 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239_0 : Ref sig .tc := ⟨.hbm, 339, rfl⟩
abbrev main_v239_1 : Ref sig .tc := ⟨.hbm, 340, rfl⟩
abbrev main_c_60 : Ref sig .tc := ⟨.hbm, 341, rfl⟩
abbrev main_v240 : Ref sig .tc := ⟨.hbm, 342, rfl⟩
abbrev main_v241 : Ref sig .tc := ⟨.hbm, 343, rfl⟩
abbrev main_c_61 : Ref sig .tc := ⟨.hbm, 344, rfl⟩
abbrev main_v242 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_v247 : Ref sig .tc := ⟨.hbm, 350, rfl⟩
abbrev main_c_62 : Ref sig .tc := ⟨.hbm, 351, rfl⟩
abbrev main_v248 : Ref sig .tc := ⟨.hbm, 352, rfl⟩
abbrev main_v249 : Ref sig .tc := ⟨.hbm, 353, rfl⟩
abbrev main_c_63 : Ref sig .tc := ⟨.hbm, 354, rfl⟩
abbrev main_v250 : Ref sig .tc := ⟨.hbm, 355, rfl⟩
abbrev main_v251 : Ref sig .tc := ⟨.hbm, 356, rfl⟩
abbrev main_v252 : Ref sig .tc := ⟨.hbm, 357, rfl⟩
abbrev main_v253 : Ref sig .tc := ⟨.hbm, 358, rfl⟩
abbrev main_v254 : Ref sig .tc := ⟨.hbm, 359, rfl⟩
abbrev main_v255 : Ref sig .tc := ⟨.hbm, 360, rfl⟩
abbrev main_v256 : Ref sig .tc := ⟨.hbm, 361, rfl⟩
abbrev main_v257 : Ref sig .tc := ⟨.hbm, 362, rfl⟩
abbrev main_cst_64 : Ref sig .tc := ⟨.hbm, 363, rfl⟩
abbrev main_v258 : Ref sig .tc := ⟨.hbm, 364, rfl⟩
abbrev main_c_65 : Ref sig .tc := ⟨.hbm, 365, rfl⟩
abbrev main_v259 : Ref sig .tc := ⟨.hbm, 366, rfl⟩
abbrev main_v260 : Ref sig .tc := ⟨.hbm, 367, rfl⟩
abbrev main_c_66 : Ref sig .tc := ⟨.hbm, 368, rfl⟩
abbrev main_v261 : Ref sig .tc := ⟨.hbm, 369, rfl⟩
abbrev main_v262 : Ref sig .tc := ⟨.hbm, 370, rfl⟩
abbrev main_v263 : Ref sig .tc := ⟨.hbm, 371, rfl⟩
abbrev main_v264 : Ref sig .tc := ⟨.hbm, 372, rfl⟩
abbrev main_v265 : Ref sig .tc := ⟨.hbm, 373, rfl⟩
abbrev main_cst_67 : Ref sig .tc := ⟨.hbm, 374, rfl⟩
abbrev main_v266 : Ref sig .tc := ⟨.hbm, 375, rfl⟩
abbrev main_v267 : Ref sig .tc := ⟨.hbm, 376, rfl⟩
abbrev main_cst_68 : Ref sig .tc := ⟨.hbm, 377, rfl⟩
abbrev main_v268 : Ref sig .tc := ⟨.hbm, 378, rfl⟩
abbrev main_v269 : Ref sig .tc := ⟨.hbm, 379, rfl⟩
abbrev main_c_69 : Ref sig .tc := ⟨.hbm, 380, rfl⟩
abbrev main_v270 : Ref sig .tc := ⟨.hbm, 381, rfl⟩
abbrev main_v271 : Ref sig .tc := ⟨.hbm, 382, rfl⟩
abbrev main_c_70 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_c_71 : Ref sig .tc := ⟨.hbm, 389, rfl⟩
abbrev main_v277 : Ref sig .tc := ⟨.hbm, 390, rfl⟩
abbrev main_v278 : Ref sig .tc := ⟨.hbm, 391, rfl⟩
abbrev main_c_72 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_cst_73 : Ref sig .tc := ⟨.hbm, 400, rfl⟩
abbrev main_v286 : Ref sig .tc := ⟨.hbm, 401, rfl⟩
abbrev main_v287 : Ref sig .tc := ⟨.hbm, 402, rfl⟩
abbrev main_c_74 : Ref sig .tc := ⟨.hbm, 403, rfl⟩
abbrev main_v288 : Ref sig .tc := ⟨.hbm, 404, rfl⟩
abbrev main_v289 : Ref sig .tc := ⟨.hbm, 405, rfl⟩
abbrev main_c_75 : Ref sig .tc := ⟨.hbm, 406, rfl⟩
abbrev main_v290 : Ref sig .tc := ⟨.hbm, 407, rfl⟩
abbrev main_v291 : Ref sig .tc := ⟨.hbm, 408, rfl⟩
abbrev main_v292 : Ref sig .tc := ⟨.hbm, 409, rfl⟩
abbrev main_v293 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_c_76 : Ref sig .tc := ⟨.hbm, 414, rfl⟩
abbrev main_v297 : Ref sig .tc := ⟨.hbm, 415, rfl⟩
abbrev main_v298 : Ref sig .tc := ⟨.hbm, 416, rfl⟩
abbrev main_c_77 : Ref sig .tc := ⟨.hbm, 417, rfl⟩
abbrev main_v299 : Ref sig .tc := ⟨.hbm, 418, rfl⟩
abbrev main_v300 : Ref sig .tc := ⟨.hbm, 419, rfl⟩
abbrev main_v301 : Ref sig .tc := ⟨.hbm, 420, rfl⟩
abbrev main_v302 : Ref sig .tc := ⟨.hbm, 421, rfl⟩
abbrev main_v303 : Ref sig .tc := ⟨.hbm, 422, rfl⟩
abbrev main_v304 : Ref sig .tc := ⟨.hbm, 423, rfl⟩
abbrev main_v305 : Ref sig .tc := ⟨.hbm, 424, rfl⟩
abbrev main_v306 : Ref sig .tc := ⟨.hbm, 425, rfl⟩
abbrev main_v307 : Ref sig .tc := ⟨.hbm, 426, rfl⟩
abbrev main_v308_0 : Ref sig .tc := ⟨.hbm, 427, rfl⟩
abbrev main_v308_1 : Ref sig .tc := ⟨.hbm, 428, rfl⟩
abbrev main_v309 : Ref sig .tc := ⟨.hbm, 429, rfl⟩
abbrev main_cst_78 : Ref sig .tc := ⟨.hbm, 430, rfl⟩
abbrev main_call6_v0 : Ref sig .tc := ⟨.hbm, 431, rfl⟩
abbrev main_call6_v1 : Ref sig .tc := ⟨.hbm, 432, rfl⟩
abbrev main_v310 : Ref sig .tc := ⟨.hbm, 433, rfl⟩
abbrev main_v311 : Ref sig .tc := ⟨.hbm, 434, rfl⟩
abbrev main_call7_v0 : Ref sig .tc := ⟨.hbm, 435, rfl⟩
abbrev main_call7_v1_0 : Ref sig .tc := ⟨.hbm, 436, rfl⟩
abbrev main_call7_v1_1 : Ref sig .tc := ⟨.hbm, 437, rfl⟩
abbrev main_v312 : Ref sig .tc := ⟨.hbm, 438, rfl⟩
abbrev main_c_79 : Ref sig .tc := ⟨.hbm, 439, rfl⟩
abbrev main_v313 : Ref sig .tc := ⟨.hbm, 440, rfl⟩
abbrev main_c_80 : Ref sig .tc := ⟨.hbm, 441, rfl⟩
abbrev main_v314 : Ref sig .tc := ⟨.hbm, 442, rfl⟩
abbrev main_v315 : Ref sig .tc := ⟨.hbm, 443, rfl⟩
abbrev main_v316 : Ref sig .tc := ⟨.hbm, 444, rfl⟩
abbrev main_call8_call0_c : Ref sig .tc := ⟨.hbm, 445, rfl⟩
abbrev main_call8_call0_v0 : Ref sig .tc := ⟨.hbm, 446, rfl⟩
abbrev main_v317 : Ref sig .tc := ⟨.hbm, 447, rfl⟩
abbrev main_v318 : Ref sig .tc := ⟨.hbm, 448, rfl⟩
abbrev main_v319 : Ref sig .tc := ⟨.hbm, 449, rfl⟩
abbrev main_c_81 : Ref sig .tc := ⟨.hbm, 450, rfl⟩
abbrev main_v320 : Ref sig .tc := ⟨.hbm, 451, rfl⟩
abbrev main_v321 : Ref sig .tc := ⟨.hbm, 452, rfl⟩
abbrev main_c_82 : Ref sig .tc := ⟨.hbm, 453, rfl⟩
abbrev main_v322 : Ref sig .tc := ⟨.hbm, 454, rfl⟩
abbrev main_v323 : Ref sig .tc := ⟨.hbm, 455, rfl⟩
abbrev main_v324 : Ref sig .tc := ⟨.hbm, 456, rfl⟩
abbrev main_v325 : Ref sig .tc := ⟨.hbm, 457, rfl⟩
abbrev main_v326 : Ref sig .tc := ⟨.hbm, 458, rfl⟩
abbrev main_c_83 : Ref sig .tc := ⟨.hbm, 459, rfl⟩
abbrev main_v327 : Ref sig .tc := ⟨.hbm, 460, rfl⟩
abbrev main_v328 : Ref sig .tc := ⟨.hbm, 461, rfl⟩
abbrev main_c_84 : Ref sig .tc := ⟨.hbm, 462, rfl⟩
abbrev main_v329 : Ref sig .tc := ⟨.hbm, 463, rfl⟩
abbrev main_v330 : Ref sig .tc := ⟨.hbm, 464, rfl⟩
abbrev main_v331 : Ref sig .tc := ⟨.hbm, 465, rfl⟩
abbrev main_v332 : Ref sig .tc := ⟨.hbm, 466, rfl⟩
abbrev main_v333 : Ref sig .tc := ⟨.hbm, 467, rfl⟩
abbrev main_v334 : Ref sig .tc := ⟨.hbm, 468, rfl⟩
abbrev main_c_85 : Ref sig .tc := ⟨.hbm, 469, rfl⟩
abbrev main_v335 : Ref sig .tc := ⟨.hbm, 470, rfl⟩
abbrev main_c_86 : Ref sig .tc := ⟨.hbm, 471, rfl⟩
abbrev main_v336 : Ref sig .tc := ⟨.hbm, 472, rfl⟩
abbrev main_v337 : Ref sig .tc := ⟨.hbm, 473, rfl⟩
abbrev main_c_87 : Ref sig .tc := ⟨.hbm, 474, rfl⟩
abbrev main_v338 : Ref sig .tc := ⟨.hbm, 475, rfl⟩
abbrev main_v339 : Ref sig .tc := ⟨.hbm, 476, rfl⟩
abbrev main_v340 : Ref sig .tc := ⟨.hbm, 477, rfl⟩
abbrev main_v341 : Ref sig .tc := ⟨.hbm, 478, rfl⟩
abbrev main_v342 : Ref sig .tc := ⟨.hbm, 479, rfl⟩
abbrev main_v343 : Ref sig .tc := ⟨.hbm, 480, rfl⟩
abbrev main_c_88 : Ref sig .tc := ⟨.hbm, 481, rfl⟩
abbrev main_v344 : Ref sig .tc := ⟨.hbm, 482, rfl⟩
abbrev main_v345 : Ref sig .tc := ⟨.hbm, 483, rfl⟩
abbrev main_v346 : Ref sig .tc := ⟨.hbm, 484, rfl⟩
abbrev main_v347 : Ref sig .tc := ⟨.hbm, 485, rfl⟩
abbrev main_cst_89 : Ref sig .tc := ⟨.hbm, 486, rfl⟩
abbrev main_v348 : Ref sig .tc := ⟨.hbm, 487, rfl⟩
abbrev main_v349 : Ref sig .tc := ⟨.hbm, 488, rfl⟩
abbrev main_v350 : Ref sig .tc := ⟨.hbm, 489, rfl⟩
abbrev main_v351 : Ref sig .tc := ⟨.hbm, 490, rfl⟩
abbrev main_c_90 : Ref sig .tc := ⟨.hbm, 491, rfl⟩
abbrev main_v352 : Ref sig .tc := ⟨.hbm, 492, rfl⟩
abbrev main_v353 : Ref sig .tc := ⟨.hbm, 493, rfl⟩
abbrev main_c_91 : Ref sig .tc := ⟨.hbm, 494, rfl⟩
abbrev main_v354 : Ref sig .tc := ⟨.hbm, 495, rfl⟩
abbrev main_v355 : Ref sig .tc := ⟨.hbm, 496, rfl⟩
abbrev main_v356 : Ref sig .tc := ⟨.hbm, 497, rfl⟩
abbrev main_v357 : Ref sig .tc := ⟨.hbm, 498, rfl⟩
abbrev main_v358 : Ref sig .tc := ⟨.hbm, 499, rfl⟩
abbrev main_v359 : Ref sig .tc := ⟨.hbm, 500, rfl⟩
abbrev main_v360 : Ref sig .tc := ⟨.hbm, 501, rfl⟩
abbrev main_v361 : Ref sig .tc := ⟨.hbm, 502, rfl⟩
abbrev main_v362 : Ref sig .tc := ⟨.hbm, 503, rfl⟩
abbrev main_v363_0 : Ref sig .tc := ⟨.hbm, 504, rfl⟩
abbrev main_v363_1 : Ref sig .tc := ⟨.hbm, 505, rfl⟩
abbrev main_c_92 : Ref sig .tc := ⟨.hbm, 506, rfl⟩
abbrev main_v364 : Ref sig .tc := ⟨.hbm, 507, rfl⟩
abbrev main_v365 : Ref sig .tc := ⟨.hbm, 508, rfl⟩
abbrev main_c_93 : Ref sig .tc := ⟨.hbm, 509, rfl⟩
abbrev main_v366 : Ref sig .tc := ⟨.hbm, 510, rfl⟩
abbrev main_v367 : Ref sig .tc := ⟨.hbm, 511, rfl⟩
abbrev main_v368 : Ref sig .tc := ⟨.hbm, 512, rfl⟩
abbrev main_v369 : Ref sig .tc := ⟨.hbm, 513, rfl⟩
abbrev main_v370 : Ref sig .tc := ⟨.hbm, 514, rfl⟩
abbrev main_v371 : Ref sig .tc := ⟨.hbm, 515, rfl⟩
abbrev main_c_94 : Ref sig .tc := ⟨.hbm, 516, rfl⟩
abbrev main_v372 : Ref sig .tc := ⟨.hbm, 517, rfl⟩
abbrev main_v373 : Ref sig .tc := ⟨.hbm, 518, rfl⟩
abbrev main_c_95 : Ref sig .tc := ⟨.hbm, 519, rfl⟩
abbrev main_v374 : Ref sig .tc := ⟨.hbm, 520, rfl⟩
abbrev main_v375 : Ref sig .tc := ⟨.hbm, 521, rfl⟩
abbrev main_v376 : Ref sig .tc := ⟨.hbm, 522, rfl⟩
abbrev main_v377 : Ref sig .tc := ⟨.hbm, 523, rfl⟩
abbrev main_v378 : Ref sig .tc := ⟨.hbm, 524, rfl⟩
abbrev main_v379 : Ref sig .tc := ⟨.hbm, 525, rfl⟩
abbrev main_v380 : Ref sig .tc := ⟨.hbm, 526, rfl⟩
abbrev main_v381 : Ref sig .tc := ⟨.hbm, 527, rfl⟩
abbrev main_cst_96 : Ref sig .tc := ⟨.hbm, 528, rfl⟩
abbrev main_v382 : Ref sig .tc := ⟨.hbm, 529, rfl⟩
abbrev main_c_97 : Ref sig .tc := ⟨.hbm, 530, rfl⟩
abbrev main_v383 : Ref sig .tc := ⟨.hbm, 531, rfl⟩
abbrev main_v384 : Ref sig .tc := ⟨.hbm, 532, rfl⟩
abbrev main_c_98 : Ref sig .tc := ⟨.hbm, 533, rfl⟩
abbrev main_v385 : Ref sig .tc := ⟨.hbm, 534, rfl⟩
abbrev main_v386 : Ref sig .tc := ⟨.hbm, 535, rfl⟩
abbrev main_v387 : Ref sig .tc := ⟨.hbm, 536, rfl⟩
abbrev main_v388 : Ref sig .tc := ⟨.hbm, 537, rfl⟩
abbrev main_v389 : Ref sig .tc := ⟨.hbm, 538, rfl⟩
abbrev main_cst_99 : Ref sig .tc := ⟨.hbm, 539, rfl⟩
abbrev main_v390 : Ref sig .tc := ⟨.hbm, 540, rfl⟩
abbrev main_v391 : Ref sig .tc := ⟨.hbm, 541, rfl⟩
abbrev main_cst_100 : Ref sig .tc := ⟨.hbm, 542, rfl⟩
abbrev main_v392 : Ref sig .tc := ⟨.hbm, 543, rfl⟩
abbrev main_v393 : Ref sig .tc := ⟨.hbm, 544, rfl⟩
abbrev main_c_101 : Ref sig .tc := ⟨.hbm, 545, rfl⟩
abbrev main_v394 : Ref sig .tc := ⟨.hbm, 546, rfl⟩
abbrev main_v395 : Ref sig .tc := ⟨.hbm, 547, rfl⟩
abbrev main_c_102 : Ref sig .tc := ⟨.hbm, 548, rfl⟩
abbrev main_v396 : Ref sig .tc := ⟨.hbm, 549, rfl⟩
abbrev main_v397 : Ref sig .tc := ⟨.hbm, 550, rfl⟩
abbrev main_v398 : Ref sig .tc := ⟨.hbm, 551, rfl⟩
abbrev main_v399 : Ref sig .tc := ⟨.hbm, 552, rfl⟩
abbrev main_v400 : Ref sig .tc := ⟨.hbm, 553, rfl⟩
abbrev main_c_103 : Ref sig .tc := ⟨.hbm, 554, rfl⟩
abbrev main_v401 : Ref sig .tc := ⟨.hbm, 555, rfl⟩
abbrev main_v402 : Ref sig .tc := ⟨.hbm, 556, rfl⟩
abbrev main_c_104 : Ref sig .tc := ⟨.hbm, 557, rfl⟩
abbrev main_v403 : Ref sig .tc := ⟨.hbm, 558, rfl⟩
abbrev main_v404 : Ref sig .tc := ⟨.hbm, 559, rfl⟩
abbrev main_v405 : Ref sig .tc := ⟨.hbm, 560, rfl⟩
abbrev main_v406 : Ref sig .tc := ⟨.hbm, 561, rfl⟩
abbrev main_v407 : Ref sig .tc := ⟨.hbm, 562, rfl⟩
abbrev main_v408 : Ref sig .tc := ⟨.hbm, 563, rfl⟩
abbrev main_v409 : Ref sig .tc := ⟨.hbm, 564, rfl⟩
abbrev main_cst_105 : Ref sig .tc := ⟨.hbm, 565, rfl⟩
abbrev main_v410 : Ref sig .tc := ⟨.hbm, 566, rfl⟩
abbrev main_v411 : Ref sig .tc := ⟨.hbm, 567, rfl⟩
abbrev main_c_106 : Ref sig .tc := ⟨.hbm, 568, rfl⟩
abbrev main_v412 : Ref sig .tc := ⟨.hbm, 569, rfl⟩
abbrev main_v413 : Ref sig .tc := ⟨.hbm, 570, rfl⟩
abbrev main_c_107 : Ref sig .tc := ⟨.hbm, 571, rfl⟩
abbrev main_v414 : Ref sig .tc := ⟨.hbm, 572, rfl⟩
abbrev main_v415 : Ref sig .tc := ⟨.hbm, 573, rfl⟩
abbrev main_v416 : Ref sig .tc := ⟨.hbm, 574, rfl⟩
abbrev main_v417 : Ref sig .tc := ⟨.hbm, 575, rfl⟩
abbrev main_v418 : Ref sig .tc := ⟨.hbm, 576, rfl⟩
abbrev main_v419 : Ref sig .tc := ⟨.hbm, 577, rfl⟩
abbrev main_v420 : Ref sig .tc := ⟨.hbm, 578, rfl⟩
abbrev main_c_108 : Ref sig .tc := ⟨.hbm, 579, rfl⟩
abbrev main_v421 : Ref sig .tc := ⟨.hbm, 580, rfl⟩
abbrev main_v422 : Ref sig .tc := ⟨.hbm, 581, rfl⟩
abbrev main_c_109 : Ref sig .tc := ⟨.hbm, 582, rfl⟩
abbrev main_v423 : Ref sig .tc := ⟨.hbm, 583, rfl⟩
abbrev main_v424 : Ref sig .tc := ⟨.hbm, 584, rfl⟩
abbrev main_v425 : Ref sig .tc := ⟨.hbm, 585, rfl⟩
abbrev main_v426 : Ref sig .tc := ⟨.hbm, 586, rfl⟩
abbrev main_v427 : Ref sig .tc := ⟨.hbm, 587, rfl⟩
abbrev main_v428 : Ref sig .tc := ⟨.hbm, 588, rfl⟩
abbrev main_v429 : Ref sig .tc := ⟨.hbm, 589, rfl⟩
abbrev main_v430 : Ref sig .tc := ⟨.hbm, 590, rfl⟩
abbrev main_v431 : Ref sig .tc := ⟨.hbm, 591, rfl⟩
abbrev main_v432_0 : Ref sig .tc := ⟨.hbm, 592, rfl⟩
abbrev main_v432_1 : Ref sig .tc := ⟨.hbm, 593, rfl⟩
abbrev main_v433 : Ref sig .tc := ⟨.hbm, 594, rfl⟩
abbrev main_cst_110 : Ref sig .tc := ⟨.hbm, 595, rfl⟩
abbrev main_call9_v0 : Ref sig .tc := ⟨.hbm, 596, rfl⟩
abbrev main_call9_v1 : Ref sig .tc := ⟨.hbm, 597, rfl⟩
abbrev main_v434 : Ref sig .tc := ⟨.hbm, 598, rfl⟩
abbrev main_v435 : Ref sig .tc := ⟨.hbm, 599, rfl⟩
abbrev main_call10_v0 : Ref sig .tc := ⟨.hbm, 600, rfl⟩
abbrev main_call10_v1_0 : Ref sig .tc := ⟨.hbm, 601, rfl⟩
abbrev main_call10_v1_1 : Ref sig .tc := ⟨.hbm, 602, rfl⟩
abbrev main_v436 : Ref sig .tc := ⟨.hbm, 603, rfl⟩
abbrev main_c_111 : Ref sig .tc := ⟨.hbm, 604, rfl⟩
abbrev main_v437 : Ref sig .tc := ⟨.hbm, 605, rfl⟩
abbrev main_c_112 : Ref sig .tc := ⟨.hbm, 606, rfl⟩
abbrev main_v438 : Ref sig .tc := ⟨.hbm, 607, rfl⟩
abbrev main_v439 : Ref sig .tc := ⟨.hbm, 608, rfl⟩
abbrev main_v440 : Ref sig .tc := ⟨.hbm, 609, rfl⟩
abbrev main_call11_call0_c : Ref sig .tc := ⟨.hbm, 610, rfl⟩
abbrev main_call11_call0_v0 : Ref sig .tc := ⟨.hbm, 611, rfl⟩
abbrev main_v441 : Ref sig .tc := ⟨.hbm, 612, rfl⟩
abbrev main_v442 : Ref sig .tc := ⟨.hbm, 613, rfl⟩
abbrev main_v443 : Ref sig .tc := ⟨.hbm, 614, rfl⟩
abbrev main_c_113 : Ref sig .tc := ⟨.hbm, 615, rfl⟩
abbrev main_v444 : Ref sig .tc := ⟨.hbm, 616, rfl⟩
abbrev main_v445 : Ref sig .tc := ⟨.hbm, 617, rfl⟩
abbrev main_c_114 : Ref sig .tc := ⟨.hbm, 618, rfl⟩
abbrev main_v446 : Ref sig .tc := ⟨.hbm, 619, rfl⟩
abbrev main_v447 : Ref sig .tc := ⟨.hbm, 620, rfl⟩
abbrev main_v448 : Ref sig .tc := ⟨.hbm, 621, rfl⟩
abbrev main_v449 : Ref sig .tc := ⟨.hbm, 622, rfl⟩
abbrev main_v450 : Ref sig .tc := ⟨.hbm, 623, rfl⟩
abbrev main_c_115 : Ref sig .tc := ⟨.hbm, 624, rfl⟩
abbrev main_v451 : Ref sig .tc := ⟨.hbm, 625, rfl⟩
abbrev main_v452 : Ref sig .tc := ⟨.hbm, 626, rfl⟩
abbrev main_c_116 : Ref sig .tc := ⟨.hbm, 627, rfl⟩
abbrev main_v453 : Ref sig .tc := ⟨.hbm, 628, rfl⟩
abbrev main_v454 : Ref sig .tc := ⟨.hbm, 629, rfl⟩
abbrev main_v455 : Ref sig .tc := ⟨.hbm, 630, rfl⟩
abbrev main_v456 : Ref sig .tc := ⟨.hbm, 631, rfl⟩
abbrev main_v457 : Ref sig .tc := ⟨.hbm, 632, rfl⟩
abbrev main_v458 : Ref sig .tc := ⟨.hbm, 633, rfl⟩
abbrev main_c_117 : Ref sig .tc := ⟨.hbm, 634, rfl⟩
abbrev main_v459 : Ref sig .tc := ⟨.hbm, 635, rfl⟩
abbrev main_c_118 : Ref sig .tc := ⟨.hbm, 636, rfl⟩
abbrev main_v460 : Ref sig .tc := ⟨.hbm, 637, rfl⟩
abbrev main_v461 : Ref sig .tc := ⟨.hbm, 638, rfl⟩
abbrev main_c_119 : Ref sig .tc := ⟨.hbm, 639, rfl⟩
abbrev main_v462 : Ref sig .tc := ⟨.hbm, 640, rfl⟩
abbrev main_v463 : Ref sig .tc := ⟨.hbm, 641, rfl⟩
abbrev main_v464 : Ref sig .tc := ⟨.hbm, 642, rfl⟩
abbrev main_v465 : Ref sig .tc := ⟨.hbm, 643, rfl⟩
abbrev main_v466 : Ref sig .tc := ⟨.hbm, 644, rfl⟩
abbrev main_v467 : Ref sig .tc := ⟨.hbm, 645, rfl⟩
abbrev main_c_120 : Ref sig .tc := ⟨.hbm, 646, rfl⟩
abbrev main_v468 : Ref sig .tc := ⟨.hbm, 647, rfl⟩
abbrev main_v469 : Ref sig .tc := ⟨.hbm, 648, rfl⟩
abbrev main_v470 : Ref sig .tc := ⟨.hbm, 649, rfl⟩
abbrev main_v471 : Ref sig .tc := ⟨.hbm, 650, rfl⟩
abbrev main_cst_121 : Ref sig .tc := ⟨.hbm, 651, rfl⟩
abbrev main_v472 : Ref sig .tc := ⟨.hbm, 652, rfl⟩
abbrev main_v473 : Ref sig .tc := ⟨.hbm, 653, rfl⟩
abbrev main_v474 : Ref sig .tc := ⟨.hbm, 654, rfl⟩
abbrev main_v475 : Ref sig .tc := ⟨.hbm, 655, rfl⟩
abbrev main_c_122 : Ref sig .tc := ⟨.hbm, 656, rfl⟩
abbrev main_v476 : Ref sig .tc := ⟨.hbm, 657, rfl⟩
abbrev main_v477 : Ref sig .tc := ⟨.hbm, 658, rfl⟩
abbrev main_c_123 : Ref sig .tc := ⟨.hbm, 659, rfl⟩
abbrev main_v478 : Ref sig .tc := ⟨.hbm, 660, rfl⟩
abbrev main_v479 : Ref sig .tc := ⟨.hbm, 661, rfl⟩
abbrev main_v480 : Ref sig .tc := ⟨.hbm, 662, rfl⟩
abbrev main_v481 : Ref sig .tc := ⟨.hbm, 663, rfl⟩
abbrev main_v482 : Ref sig .tc := ⟨.hbm, 664, rfl⟩
abbrev main_v483 : Ref sig .tc := ⟨.hbm, 665, rfl⟩
abbrev main_v484 : Ref sig .tc := ⟨.hbm, 666, rfl⟩
abbrev main_v485 : Ref sig .tc := ⟨.hbm, 667, rfl⟩
abbrev main_v486 : Ref sig .tc := ⟨.hbm, 668, rfl⟩
abbrev main_v487_0 : Ref sig .tc := ⟨.hbm, 669, rfl⟩
abbrev main_v487_1 : Ref sig .tc := ⟨.hbm, 670, rfl⟩
abbrev main_c_124 : Ref sig .tc := ⟨.hbm, 671, rfl⟩
abbrev main_v488 : Ref sig .tc := ⟨.hbm, 672, rfl⟩
abbrev main_v489 : Ref sig .tc := ⟨.hbm, 673, rfl⟩
abbrev main_c_125 : Ref sig .tc := ⟨.hbm, 674, rfl⟩
abbrev main_v490 : Ref sig .tc := ⟨.hbm, 675, rfl⟩
abbrev main_v491 : Ref sig .tc := ⟨.hbm, 676, rfl⟩
abbrev main_v492 : Ref sig .tc := ⟨.hbm, 677, rfl⟩
abbrev main_v493 : Ref sig .tc := ⟨.hbm, 678, rfl⟩
abbrev main_v494 : Ref sig .tc := ⟨.hbm, 679, rfl⟩
abbrev main_v495 : Ref sig .tc := ⟨.hbm, 680, rfl⟩
abbrev main_c_126 : Ref sig .tc := ⟨.hbm, 681, rfl⟩
abbrev main_v496 : Ref sig .tc := ⟨.hbm, 682, rfl⟩
abbrev main_v497 : Ref sig .tc := ⟨.hbm, 683, rfl⟩
abbrev main_c_127 : Ref sig .tc := ⟨.hbm, 684, rfl⟩
abbrev main_v498 : Ref sig .tc := ⟨.hbm, 685, rfl⟩
abbrev main_v499 : Ref sig .tc := ⟨.hbm, 686, rfl⟩
abbrev main_v500 : Ref sig .tc := ⟨.hbm, 687, rfl⟩
abbrev main_v501 : Ref sig .tc := ⟨.hbm, 688, rfl⟩
abbrev main_v502 : Ref sig .tc := ⟨.hbm, 689, rfl⟩
abbrev main_v503 : Ref sig .tc := ⟨.hbm, 690, rfl⟩
abbrev main_v504 : Ref sig .tc := ⟨.hbm, 691, rfl⟩
abbrev main_v505 : Ref sig .tc := ⟨.hbm, 692, rfl⟩
abbrev main_v506 : Ref sig .tc := ⟨.hbm, 693, rfl⟩
abbrev main_v507 : Ref sig .tc := ⟨.hbm, 694, rfl⟩
abbrev main_v508 : Ref sig .tc := ⟨.hbm, 695, rfl⟩
abbrev main_v509 : Ref sig .tc := ⟨.hbm, 696, rfl⟩
abbrev main_v510 : Ref sig .tc := ⟨.hbm, 697, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc4_stg6_0 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg6_0 : Ref sig .tc := ⟨.vmem, 33, rfl⟩
abbrev cc6_stg0_0 : Ref sig .tc := ⟨.vmem, 34, rfl⟩
abbrev cc6_stg1_0 : Ref sig .tc := ⟨.vmem, 35, rfl⟩
abbrev cc6_stg2_0 : Ref sig .tc := ⟨.vmem, 36, rfl⟩
abbrev cc7_stg0_0 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg4_0 : Ref sig .tc := ⟨.vmem, 41, rfl⟩
abbrev cc7_stg5_0 : Ref sig .tc := ⟨.vmem, 42, rfl⟩
abbrev cc7_stg6_0 : Ref sig .tc := ⟨.vmem, 43, rfl⟩
abbrev cc8_stg0_0 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc8_stg4_0 : Ref sig .tc := ⟨.vmem, 48, rfl⟩
abbrev cc8_stg5_0 : Ref sig .tc := ⟨.vmem, 49, rfl⟩
abbrev cc8_stg6_0 : Ref sig .tc := ⟨.vmem, 50, rfl⟩
abbrev cc9_stg0_0 : Ref sig .tc := ⟨.vmem, 51, rfl⟩
abbrev cc9_stg1_0 : Ref sig .tc := ⟨.vmem, 52, rfl⟩
abbrev cc9_stg2_0 : Ref sig .tc := ⟨.vmem, 53, rfl⟩
abbrev cc10_stg0_0 : Ref sig .tc := ⟨.vmem, 54, rfl⟩
abbrev cc10_stg1_0 : Ref sig .tc := ⟨.vmem, 55, rfl⟩
abbrev cc10_stg2_0 : Ref sig .tc := ⟨.vmem, 56, rfl⟩
abbrev cc10_stg3_0 : Ref sig .tc := ⟨.vmem, 57, rfl⟩
abbrev cc10_stg4_0 : Ref sig .tc := ⟨.vmem, 58, rfl⟩
abbrev cc10_stg5_0 : Ref sig .tc := ⟨.vmem, 59, rfl⟩
abbrev cc10_stg6_0 : Ref sig .tc := ⟨.vmem, 60, rfl⟩
abbrev cc11_stg0_0 : Ref sig .tc := ⟨.vmem, 61, rfl⟩
abbrev cc11_stg1_0 : Ref sig .tc := ⟨.vmem, 62, rfl⟩
abbrev cc11_stg2_0 : Ref sig .tc := ⟨.vmem, 63, rfl⟩
abbrev cc11_stg3_0 : Ref sig .tc := ⟨.vmem, 64, rfl⟩
abbrev cc11_stg4_0 : Ref sig .tc := ⟨.vmem, 65, rfl⟩
abbrev cc11_stg5_0 : Ref sig .tc := ⟨.vmem, 66, rfl⟩
abbrev cc11_stg6_0 : Ref sig .tc := ⟨.vmem, 67, rfl⟩
abbrev cc12_stg0_0 : Ref sig .tc := ⟨.vmem, 68, rfl⟩
abbrev cc12_stg1_0 : Ref sig .tc := ⟨.vmem, 69, rfl⟩
abbrev cc12_stg2_0 : Ref sig .tc := ⟨.vmem, 70, rfl⟩
abbrev cc12_stg3_0 : Ref sig .tc := ⟨.vmem, 71, rfl⟩
abbrev cc12_stg4_0 : Ref sig .tc := ⟨.vmem, 72, rfl⟩
abbrev cc12_stg5_0 : Ref sig .tc := ⟨.vmem, 73, rfl⟩
abbrev cc12_stg6_0 : Ref sig .tc := ⟨.vmem, 74, rfl⟩
abbrev cc12_stg7_0 : Ref sig .tc := ⟨.vmem, 75, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc3_sem0_0 : DmaSem sig := 17
abbrev cc3_sem1_0 : DmaSem sig := 18
abbrev cc3_sem2_0 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25
abbrev cc4_sem6_0 : DmaSem sig := 26
abbrev cc5_sem0_0 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem6_0 : DmaSem sig := 33
abbrev cc6_sem0_0 : DmaSem sig := 34
abbrev cc6_sem1_0 : DmaSem sig := 35
abbrev cc6_sem2_0 : DmaSem sig := 36
abbrev cc7_sem0_0 : DmaSem sig := 37
abbrev cc7_sem1_0 : DmaSem sig := 38
abbrev cc7_sem2_0 : DmaSem sig := 39
abbrev cc7_sem3_0 : DmaSem sig := 40
abbrev cc7_sem4_0 : DmaSem sig := 41
abbrev cc7_sem5_0 : DmaSem sig := 42
abbrev cc7_sem6_0 : DmaSem sig := 43
abbrev cc8_sem0_0 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem6_0 : DmaSem sig := 50
abbrev cc9_sem0_0 : DmaSem sig := 51
abbrev cc9_sem1_0 : DmaSem sig := 52
abbrev cc9_sem2_0 : DmaSem sig := 53
abbrev cc10_sem0_0 : DmaSem sig := 54
abbrev cc10_sem1_0 : DmaSem sig := 55
abbrev cc10_sem2_0 : DmaSem sig := 56
abbrev cc10_sem3_0 : DmaSem sig := 57
abbrev cc10_sem4_0 : DmaSem sig := 58
abbrev cc10_sem5_0 : DmaSem sig := 59
abbrev cc10_sem6_0 : DmaSem sig := 60
abbrev cc11_sem0_0 : DmaSem sig := 61
abbrev cc11_sem1_0 : DmaSem sig := 62
abbrev cc11_sem2_0 : DmaSem sig := 63
abbrev cc11_sem3_0 : DmaSem sig := 64
abbrev cc11_sem4_0 : DmaSem sig := 65
abbrev cc11_sem5_0 : DmaSem sig := 66
abbrev cc11_sem6_0 : DmaSem sig := 67
abbrev cc12_sem0_0 : DmaSem sig := 68
abbrev cc12_sem1_0 : DmaSem sig := 69
abbrev cc12_sem2_0 : DmaSem sig := 70
abbrev cc12_sem3_0 : DmaSem sig := 71
abbrev cc12_sem4_0 : DmaSem sig := 72
abbrev cc12_sem5_0 : DmaSem sig := 73
abbrev cc12_sem6_0 : DmaSem sig := 74
abbrev cc12_sem7_0 : DmaSem sig := 75

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S10000x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S10000x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10000x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10000x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x10000 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S10000x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S16x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev grid3 : Pipeline.Grid := .none

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S10000x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev grid4 : Pipeline.Grid := .none

abbrev stage4_0 : Fin 1 → Memref sig .tc .vmem S10000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S10000x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S10000x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S128x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S10000x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S10000x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev grid5 : Pipeline.Grid := .none

abbrev stage5_0 : Fin 1 → Memref sig .tc .vmem S10000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S10000x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S10000x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S10000x1 .i32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1x10000 .i32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S10000x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S16x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev grid6 : Pipeline.Grid := .none

abbrev stage6_0 : Fin 1 → Memref sig .tc .vmem S10000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S10000x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev grid7 : Pipeline.Grid := .none

abbrev stage7_0 : Fin 1 → Memref sig .tc .vmem S10000x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S10000x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S10000x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S128x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S10000x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S10000x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev grid8 : Pipeline.Grid := .none

abbrev stage8_0 : Fin 1 → Memref sig .tc .vmem S10000x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S10000x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S10000x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S10000x1 .i32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev stage8_4 : Fin 1 → Memref sig .tc .vmem S1x10000 .i32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))

abbrev stage8_5 : Fin 1 → Memref sig .tc .vmem S10000x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))

abbrev stage8_6 : Fin 1 → Memref sig .tc .vmem S16x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))

abbrev grid9 : Pipeline.Grid := .none

abbrev stage9_0 : Fin 1 → Memref sig .tc .vmem S10000x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S10000x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev grid10 : Pipeline.Grid := .none

abbrev stage10_0 : Fin 1 → Memref sig .tc .vmem S10000x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))

abbrev stage10_1 : Fin 1 → Memref sig .tc .vmem S10000x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))

abbrev stage10_2 : Fin 1 → Memref sig .tc .vmem S10000x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))

abbrev stage10_4 : Fin 1 → Memref sig .tc .vmem S128x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))

abbrev stage10_5 : Fin 1 → Memref sig .tc .vmem S10000x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))

abbrev stage10_6 : Fin 1 → Memref sig .tc .vmem S10000x1 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))

abbrev grid11 : Pipeline.Grid := .none

abbrev stage11_0 : Fin 1 → Memref sig .tc .vmem S10000x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))

abbrev stage11_1 : Fin 1 → Memref sig .tc .vmem S10000x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))

abbrev stage11_2 : Fin 1 → Memref sig .tc .vmem S10000x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))

abbrev stage11_3 : Fin 1 → Memref sig .tc .vmem S10000x1 .i32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))

abbrev stage11_4 : Fin 1 → Memref sig .tc .vmem S1x10000 .i32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))

abbrev stage11_5 : Fin 1 → Memref sig .tc .vmem S10000x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))

abbrev stage11_6 : Fin 1 → Memref sig .tc .vmem S16x256 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))

abbrev grid12 : Pipeline.Grid := .none

abbrev stage12_0 : Fin 1 → Memref sig .tc .vmem S16x256 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))

abbrev stage12_1 : Fin 1 → Memref sig .tc .vmem S256x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))

abbrev stage12_3 : Fin 1 → Memref sig .tc .vmem S128x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))

abbrev stage12_5 : Fin 1 → Memref sig .tc .vmem S64x10 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))

abbrev stage12_6 : Fin 1 → Memref sig .tc .vmem S1x10 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))

abbrev stage12_7 : Fin 1 → Memref sig .tc .vmem S16x10 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S10000x1 : Shape := ⟨2, ![10000, 1]⟩
abbrev S1x128 : Shape := ⟨2, ![1, 128]⟩
abbrev S16 : Shape := ⟨1, ![16]⟩
abbrev S1x10000 : Shape := ⟨2, ![1, 10000]⟩
abbrev S16x1 : Shape := ⟨2, ![16, 1]⟩
abbrev S16x10000 : Shape := ⟨2, ![16, 10000]⟩
abbrev S16x10000x1 : Shape := ⟨3, ![16, 10000, 1]⟩
abbrev S1x10000x128 : Shape := ⟨3, ![1, 10000, 128]⟩
abbrev S16x10000x128 : Shape := ⟨3, ![16, 10000, 128]⟩
abbrev S16x128 : Shape := ⟨2, ![16, 128]⟩
abbrev S16x256 : Shape := ⟨2, ![16, 256]⟩
abbrev S16x64 : Shape := ⟨2, ![16, 64]⟩
abbrev S1x64 : Shape := ⟨2, ![1, 64]⟩
abbrev S16x10 : Shape := ⟨2, ![16, 10]⟩
abbrev S1x10 : Shape := ⟨2, ![1, 10]⟩

abbrev nBuf : Space → Nat
  | .hbm => 925
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128, .f32⟩
  | 6 => ⟨S128x128, .f32⟩
  | 7 => ⟨S128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128, .f32⟩
  | 15 => ⟨S256x128, .f32⟩
  | 16 => ⟨S128, .f32⟩
  | 17 => ⟨S128x64, .f32⟩
  | 18 => ⟨S64, .f32⟩
  | 19 => ⟨S64x10, .f32⟩
  | 20 => ⟨S10, .f32⟩
  | 21 => ⟨S1x320000, .i32⟩
  | 22 => ⟨S320000, .i32⟩
  | 23 => ⟨S1x320000, .i32⟩
  | 24 => ⟨S320000, .i32⟩
  | 25 => ⟨S_, .i1⟩
  | 26 => ⟨S10000, .i1⟩
  | 27 => ⟨S_, .i1⟩
  | 28 => ⟨S320000, .i1⟩
  | 29 => ⟨S10000x128, .f32⟩
  | 30 => ⟨S320000, .f32⟩
  | 31 => ⟨S_, .f32⟩
  | 32 => ⟨S10000, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S10000, .f32⟩
  | 42 => ⟨S_, .f32⟩
  | 43 => ⟨S10000, .f32⟩
  | 44 => ⟨S10000, .f32⟩
  | 45 => ⟨S_, .f32⟩
  | 46 => ⟨S10000, .f32⟩
  | 47 => ⟨S10000, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000, .f32⟩
  | 66 => ⟨S320000, .f32⟩
  | 67 => ⟨S320000, .f32⟩
  | 68 => ⟨S_, .f32⟩
  | 69 => ⟨S10000x128, .f32⟩
  | 70 => ⟨S320000x1, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000x128, .f32⟩
  | 80 => ⟨S320000x128, .f32⟩
  | 81 => ⟨S320000x128, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S10000x128, .f32⟩
  | 91 => ⟨S10000, .f32⟩
  | 92 => ⟨S10000x1, .f32⟩
  | 93 => ⟨S10000x128, .f32⟩
  | 94 => ⟨S10000x128, .f32⟩
  | 95 => ⟨S10000x128, .f32⟩
  | 96 => ⟨S1x128, .f32⟩
  | 97 => ⟨S10000x128, .f32⟩
  | 98 => ⟨S10000x128, .f32⟩
  | 99 => ⟨S_, .f32⟩
  | 100 => ⟨S10000x128, .f32⟩
  | 101 => ⟨S10000x128, .f32⟩
  | 102 => ⟨S10000, .f32⟩
  | 103 => ⟨S128, .f32⟩
  | 104 => ⟨S_, .f32⟩
  | 105 => ⟨S_, .f32⟩
  | 106 => ⟨S_, .f32⟩
  | 107 => ⟨S10000, .f32⟩
  | 108 => ⟨S10000, .f32⟩
  | 109 => ⟨S10000, .f32⟩
  | 110 => ⟨S_, .f32⟩
  | 111 => ⟨S_, .f32⟩
  | 112 => ⟨S10000, .f32⟩
  | 113 => ⟨S10000, .f32⟩
  | 114 => ⟨S10000, .f32⟩
  | 115 => ⟨S10000, .i32⟩
  | 116 => ⟨S10000, .i32⟩
  | 117 => ⟨S10000, .f32⟩
  | 118 => ⟨S10000, .i32⟩
  | 119 => ⟨S_, .i32⟩
  | 120 => ⟨S10000, .i32⟩
  | 121 => ⟨S_, .i32⟩
  | 122 => ⟨S16, .i32⟩
  | 123 => ⟨S10000x1, .i32⟩
  | 124 => ⟨S16, .i32⟩
  | 125 => ⟨S_, .i32⟩
  | 126 => ⟨S_, .i32⟩
  | 127 => ⟨S16, .i32⟩
  | _ => ⟨S10000x128, .f32⟩

abbrev hbmTy0_1 (i : Nat) : BufTy := match i % 128 with
  | 0 => ⟨S16, .i32⟩
  | 1 => ⟨S10000, .i32⟩
  | 2 => ⟨S_, .i32⟩
  | 3 => ⟨S10000, .i32⟩
  | 4 => ⟨S10000, .i1⟩
  | 5 => ⟨S_, .i32⟩
  | 6 => ⟨S10000, .i32⟩
  | 7 => ⟨S10000, .i32⟩
  | 8 => ⟨S10000, .i32⟩
  | 9 => ⟨S10000x1, .i32⟩
  | 10 => ⟨S10000, .i32⟩
  | 11 => ⟨S_, .i32⟩
  | 12 => ⟨S10000, .i32⟩
  | 13 => ⟨S10000, .i1⟩
  | 14 => ⟨S_, .i32⟩
  | 15 => ⟨S10000, .i32⟩
  | 16 => ⟨S10000, .i32⟩
  | 17 => ⟨S10000, .i32⟩
  | 18 => ⟨S10000x1, .i32⟩
  | 19 => ⟨S10000, .i32⟩
  | 20 => ⟨S10000, .i32⟩
  | 21 => ⟨S_, .i32⟩
  | 22 => ⟨S10000, .i32⟩
  | 23 => ⟨S_, .i32⟩
  | 24 => ⟨S10000, .i32⟩
  | 25 => ⟨S10000, .i1⟩
  | 26 => ⟨S_, .i32⟩
  | 27 => ⟨S10000, .i32⟩
  | 28 => ⟨S10000, .i32⟩
  | 29 => ⟨S10000, .i32⟩
  | 30 => ⟨S10000x1, .i32⟩
  | 31 => ⟨S10000, .i32⟩
  | 32 => ⟨S10000, .i32⟩
  | 33 => ⟨S_, .i32⟩
  | 34 => ⟨S16, .i32⟩
  | 35 => ⟨S10000x1, .i32⟩
  | 36 => ⟨S16, .i32⟩
  | 37 => ⟨S16, .f32⟩
  | 38 => ⟨S_, .f32⟩
  | 39 => ⟨S16, .f32⟩
  | 40 => ⟨S16, .f32⟩
  | 41 => ⟨S16, .f32⟩
  | 42 => ⟨S16, .i32⟩
  | 43 => ⟨S_, .i32⟩
  | 44 => ⟨S10000, .i32⟩
  | 45 => ⟨S10000, .i1⟩
  | 46 => ⟨S_, .i32⟩
  | 47 => ⟨S10000, .i32⟩
  | 48 => ⟨S10000, .i32⟩
  | 49 => ⟨S10000, .i32⟩
  | 50 => ⟨S10000x1, .i32⟩
  | 51 => ⟨S10000, .i32⟩
  | 52 => ⟨S10000, .i1⟩
  | 53 => ⟨S10000, .i1⟩
  | 54 => ⟨S10000x1, .f32⟩
  | 55 => ⟨S10000x128, .f32⟩
  | 56 => ⟨S10000x128, .f32⟩
  | 57 => ⟨S10000x1, .i1⟩
  | 58 => ⟨S10000x1, .f32⟩
  | 59 => ⟨S10000x128, .f32⟩
  | 60 => ⟨S10000x128, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000, .i1⟩
  | 70 => ⟨S320000, .i1⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000, .i1⟩
  | 80 => ⟨S320000, .i1⟩
  | 81 => ⟨S10000x1, .i1⟩
  | 82 => ⟨S_, .f32⟩
  | 83 => ⟨S_, .f32⟩
  | 84 => ⟨S10000x128, .i1⟩
  | 85 => ⟨S10000x128, .f32⟩
  | 86 => ⟨S10000x128, .f32⟩
  | 87 => ⟨S1x10000, .i32⟩
  | 88 => ⟨S16, .i32⟩
  | 89 => ⟨S16x1, .i32⟩
  | 90 => ⟨S16x10000, .i32⟩
  | 91 => ⟨S16x10000, .i32⟩
  | 92 => ⟨S16x10000, .i1⟩
  | 93 => ⟨S16x10000x1, .i1⟩
  | 94 => ⟨S1x10000x128, .f32⟩
  | 95 => ⟨S_, .f32⟩
  | 96 => ⟨S_, .f32⟩
  | 97 => ⟨S16x10000x128, .i1⟩
  | 98 => ⟨S16x10000x128, .f32⟩
  | 99 => ⟨S16x10000x128, .f32⟩
  | 100 => ⟨S16x10000x128, .f32⟩
  | 101 => ⟨S_, .f32⟩
  | 102 => ⟨S16x128, .f32⟩
  | 103 => ⟨S_, .f32⟩
  | 104 => ⟨S16x128, .f32⟩
  | 105 => ⟨S10000x1, .i32⟩
  | 106 => ⟨S16x128, .f32⟩
  | 107 => ⟨S10000, .f32⟩
  | 108 => ⟨S_, .f32⟩
  | 109 => ⟨S16, .f32⟩
  | 110 => ⟨S10000x1, .i32⟩
  | 111 => ⟨S16, .f32⟩
  | 112 => ⟨S16x1, .f32⟩
  | 113 => ⟨S16x128, .f32⟩
  | 114 => ⟨S16x128, .f32⟩
  | 115 => ⟨S16x256, .f32⟩
  | 116 => ⟨S10000x128, .f32⟩
  | 117 => ⟨S320000, .f32⟩
  | 118 => ⟨S_, .f32⟩
  | 119 => ⟨S10000, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S10000x128, .f32⟩

abbrev hbmTy0_2 (i : Nat) : BufTy := match i % 128 with
  | 0 => ⟨S10000, .f32⟩
  | 1 => ⟨S_, .f32⟩
  | 2 => ⟨S10000, .f32⟩
  | 3 => ⟨S10000, .f32⟩
  | 4 => ⟨S_, .f32⟩
  | 5 => ⟨S10000, .f32⟩
  | 6 => ⟨S10000, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S320000, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000, .f32⟩
  | 25 => ⟨S320000, .f32⟩
  | 26 => ⟨S320000, .f32⟩
  | 27 => ⟨S_, .f32⟩
  | 28 => ⟨S10000x128, .f32⟩
  | 29 => ⟨S320000x1, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x128, .f32⟩
  | 39 => ⟨S320000x128, .f32⟩
  | 40 => ⟨S320000x128, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S10000x128, .f32⟩
  | 50 => ⟨S10000, .f32⟩
  | 51 => ⟨S10000x1, .f32⟩
  | 52 => ⟨S10000x128, .f32⟩
  | 53 => ⟨S10000x128, .f32⟩
  | 54 => ⟨S10000x128, .f32⟩
  | 55 => ⟨S1x128, .f32⟩
  | 56 => ⟨S10000x128, .f32⟩
  | 57 => ⟨S10000x128, .f32⟩
  | 58 => ⟨S_, .f32⟩
  | 59 => ⟨S10000x128, .f32⟩
  | 60 => ⟨S10000x128, .f32⟩
  | 61 => ⟨S10000, .f32⟩
  | 62 => ⟨S128, .f32⟩
  | 63 => ⟨S_, .f32⟩
  | 64 => ⟨S_, .f32⟩
  | 65 => ⟨S_, .f32⟩
  | 66 => ⟨S10000, .f32⟩
  | 67 => ⟨S10000, .f32⟩
  | 68 => ⟨S10000, .f32⟩
  | 69 => ⟨S_, .f32⟩
  | 70 => ⟨S_, .f32⟩
  | 71 => ⟨S10000, .f32⟩
  | 72 => ⟨S10000, .f32⟩
  | 73 => ⟨S10000, .f32⟩
  | 74 => ⟨S10000, .i32⟩
  | 75 => ⟨S10000, .i32⟩
  | 76 => ⟨S10000, .f32⟩
  | 77 => ⟨S10000, .i32⟩
  | 78 => ⟨S_, .i32⟩
  | 79 => ⟨S10000, .i32⟩
  | 80 => ⟨S_, .i32⟩
  | 81 => ⟨S16, .i32⟩
  | 82 => ⟨S10000x1, .i32⟩
  | 83 => ⟨S16, .i32⟩
  | 84 => ⟨S_, .i32⟩
  | 85 => ⟨S_, .i32⟩
  | 86 => ⟨S16, .i32⟩
  | 87 => ⟨S16, .i32⟩
  | 88 => ⟨S10000, .i32⟩
  | 89 => ⟨S_, .i32⟩
  | 90 => ⟨S10000, .i32⟩
  | 91 => ⟨S10000, .i1⟩
  | 92 => ⟨S_, .i32⟩
  | 93 => ⟨S10000, .i32⟩
  | 94 => ⟨S10000, .i32⟩
  | 95 => ⟨S10000, .i32⟩
  | 96 => ⟨S10000x1, .i32⟩
  | 97 => ⟨S10000, .i32⟩
  | 98 => ⟨S_, .i32⟩
  | 99 => ⟨S10000, .i32⟩
  | 100 => ⟨S10000, .i1⟩
  | 101 => ⟨S_, .i32⟩
  | 102 => ⟨S10000, .i32⟩
  | 103 => ⟨S10000, .i32⟩
  | 104 => ⟨S10000, .i32⟩
  | 105 => ⟨S10000x1, .i32⟩
  | 106 => ⟨S10000, .i32⟩
  | 107 => ⟨S10000, .i32⟩
  | 108 => ⟨S_, .i32⟩
  | 109 => ⟨S10000, .i32⟩
  | 110 => ⟨S_, .i32⟩
  | 111 => ⟨S10000, .i32⟩
  | 112 => ⟨S10000, .i1⟩
  | 113 => ⟨S_, .i32⟩
  | 114 => ⟨S10000, .i32⟩
  | 115 => ⟨S10000, .i32⟩
  | 116 => ⟨S10000, .i32⟩
  | 117 => ⟨S10000x1, .i32⟩
  | 118 => ⟨S10000, .i32⟩
  | 119 => ⟨S10000, .i32⟩
  | 120 => ⟨S_, .i32⟩
  | 121 => ⟨S16, .i32⟩
  | 122 => ⟨S10000x1, .i32⟩
  | 123 => ⟨S16, .i32⟩
  | 124 => ⟨S16, .f32⟩
  | 125 => ⟨S_, .f32⟩
  | 126 => ⟨S16, .f32⟩
  | 127 => ⟨S16, .f32⟩
  | _ => ⟨S10000x128, .f32⟩

abbrev hbmTy0_3 (i : Nat) : BufTy := match i % 128 with
  | 0 => ⟨S16, .f32⟩
  | 1 => ⟨S16, .i32⟩
  | 2 => ⟨S_, .i32⟩
  | 3 => ⟨S10000, .i32⟩
  | 4 => ⟨S10000, .i1⟩
  | 5 => ⟨S_, .i32⟩
  | 6 => ⟨S10000, .i32⟩
  | 7 => ⟨S10000, .i32⟩
  | 8 => ⟨S10000, .i32⟩
  | 9 => ⟨S10000x1, .i32⟩
  | 10 => ⟨S10000, .i32⟩
  | 11 => ⟨S10000, .i1⟩
  | 12 => ⟨S10000, .i1⟩
  | 13 => ⟨S10000x1, .f32⟩
  | 14 => ⟨S10000x128, .f32⟩
  | 15 => ⟨S10000x128, .f32⟩
  | 16 => ⟨S10000x1, .i1⟩
  | 17 => ⟨S10000x1, .f32⟩
  | 18 => ⟨S10000x128, .f32⟩
  | 19 => ⟨S10000x128, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000, .i1⟩
  | 29 => ⟨S320000, .i1⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000, .i1⟩
  | 39 => ⟨S320000, .i1⟩
  | 40 => ⟨S10000x1, .i1⟩
  | 41 => ⟨S_, .f32⟩
  | 42 => ⟨S_, .f32⟩
  | 43 => ⟨S10000x128, .i1⟩
  | 44 => ⟨S10000x128, .f32⟩
  | 45 => ⟨S10000x128, .f32⟩
  | 46 => ⟨S1x10000, .i32⟩
  | 47 => ⟨S16, .i32⟩
  | 48 => ⟨S16x1, .i32⟩
  | 49 => ⟨S16x10000, .i32⟩
  | 50 => ⟨S16x10000, .i32⟩
  | 51 => ⟨S16x10000, .i1⟩
  | 52 => ⟨S16x10000x1, .i1⟩
  | 53 => ⟨S1x10000x128, .f32⟩
  | 54 => ⟨S_, .f32⟩
  | 55 => ⟨S_, .f32⟩
  | 56 => ⟨S16x10000x128, .i1⟩
  | 57 => ⟨S16x10000x128, .f32⟩
  | 58 => ⟨S16x10000x128, .f32⟩
  | 59 => ⟨S16x10000x128, .f32⟩
  | 60 => ⟨S_, .f32⟩
  | 61 => ⟨S16x128, .f32⟩
  | 62 => ⟨S_, .f32⟩
  | 63 => ⟨S16x128, .f32⟩
  | 64 => ⟨S10000x1, .i32⟩
  | 65 => ⟨S16x128, .f32⟩
  | 66 => ⟨S10000, .f32⟩
  | 67 => ⟨S_, .f32⟩
  | 68 => ⟨S16, .f32⟩
  | 69 => ⟨S10000x1, .i32⟩
  | 70 => ⟨S16, .f32⟩
  | 71 => ⟨S16x1, .f32⟩
  | 72 => ⟨S16x128, .f32⟩
  | 73 => ⟨S16x128, .f32⟩
  | 74 => ⟨S16x256, .f32⟩
  | 75 => ⟨S10000x128, .f32⟩
  | 76 => ⟨S320000, .f32⟩
  | 77 => ⟨S_, .f32⟩
  | 78 => ⟨S10000, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S10000, .f32⟩
  | 88 => ⟨S_, .f32⟩
  | 89 => ⟨S10000, .f32⟩
  | 90 => ⟨S10000, .f32⟩
  | 91 => ⟨S_, .f32⟩
  | 92 => ⟨S10000, .f32⟩
  | 93 => ⟨S10000, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000, .f32⟩
  | 112 => ⟨S320000, .f32⟩
  | 113 => ⟨S320000, .f32⟩
  | 114 => ⟨S_, .f32⟩
  | 115 => ⟨S10000x128, .f32⟩
  | 116 => ⟨S320000x1, .f32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S320000x128, .f32⟩
  | 126 => ⟨S320000x128, .f32⟩
  | 127 => ⟨S320000x128, .f32⟩
  | _ => ⟨S10000x128, .f32⟩

abbrev hbmTy0_4 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S10000x128, .f32⟩
  | 9 => ⟨S10000, .f32⟩
  | 10 => ⟨S10000x1, .f32⟩
  | 11 => ⟨S10000x128, .f32⟩
  | 12 => ⟨S10000x128, .f32⟩
  | 13 => ⟨S10000x128, .f32⟩
  | 14 => ⟨S1x128, .f32⟩
  | 15 => ⟨S10000x128, .f32⟩
  | 16 => ⟨S10000x128, .f32⟩
  | 17 => ⟨S_, .f32⟩
  | 18 => ⟨S10000x128, .f32⟩
  | 19 => ⟨S10000x128, .f32⟩
  | 20 => ⟨S10000, .f32⟩
  | 21 => ⟨S128, .f32⟩
  | 22 => ⟨S_, .f32⟩
  | 23 => ⟨S_, .f32⟩
  | 24 => ⟨S_, .f32⟩
  | 25 => ⟨S10000, .f32⟩
  | 26 => ⟨S10000, .f32⟩
  | 27 => ⟨S10000, .f32⟩
  | 28 => ⟨S_, .f32⟩
  | 29 => ⟨S_, .f32⟩
  | 30 => ⟨S10000, .f32⟩
  | 31 => ⟨S10000, .f32⟩
  | 32 => ⟨S10000, .f32⟩
  | 33 => ⟨S10000, .i32⟩
  | 34 => ⟨S10000, .i32⟩
  | 35 => ⟨S10000, .f32⟩
  | 36 => ⟨S10000, .i32⟩
  | 37 => ⟨S_, .i32⟩
  | 38 => ⟨S10000, .i32⟩
  | 39 => ⟨S_, .i32⟩
  | 40 => ⟨S16, .i32⟩
  | 41 => ⟨S10000x1, .i32⟩
  | 42 => ⟨S16, .i32⟩
  | 43 => ⟨S_, .i32⟩
  | 44 => ⟨S_, .i32⟩
  | 45 => ⟨S16, .i32⟩
  | 46 => ⟨S16, .i32⟩
  | 47 => ⟨S10000, .i32⟩
  | 48 => ⟨S_, .i32⟩
  | 49 => ⟨S10000, .i32⟩
  | 50 => ⟨S10000, .i1⟩
  | 51 => ⟨S_, .i32⟩
  | 52 => ⟨S10000, .i32⟩
  | 53 => ⟨S10000, .i32⟩
  | 54 => ⟨S10000, .i32⟩
  | 55 => ⟨S10000x1, .i32⟩
  | 56 => ⟨S10000, .i32⟩
  | 57 => ⟨S_, .i32⟩
  | 58 => ⟨S10000, .i32⟩
  | 59 => ⟨S10000, .i1⟩
  | 60 => ⟨S_, .i32⟩
  | 61 => ⟨S10000, .i32⟩
  | 62 => ⟨S10000, .i32⟩
  | 63 => ⟨S10000, .i32⟩
  | 64 => ⟨S10000x1, .i32⟩
  | 65 => ⟨S10000, .i32⟩
  | 66 => ⟨S10000, .i32⟩
  | 67 => ⟨S_, .i32⟩
  | 68 => ⟨S10000, .i32⟩
  | 69 => ⟨S_, .i32⟩
  | 70 => ⟨S10000, .i32⟩
  | 71 => ⟨S10000, .i1⟩
  | 72 => ⟨S_, .i32⟩
  | 73 => ⟨S10000, .i32⟩
  | 74 => ⟨S10000, .i32⟩
  | 75 => ⟨S10000, .i32⟩
  | 76 => ⟨S10000x1, .i32⟩
  | 77 => ⟨S10000, .i32⟩
  | 78 => ⟨S10000, .i32⟩
  | 79 => ⟨S_, .i32⟩
  | 80 => ⟨S16, .i32⟩
  | 81 => ⟨S10000x1, .i32⟩
  | 82 => ⟨S16, .i32⟩
  | 83 => ⟨S16, .f32⟩
  | 84 => ⟨S_, .f32⟩
  | 85 => ⟨S16, .f32⟩
  | 86 => ⟨S16, .f32⟩
  | 87 => ⟨S16, .f32⟩
  | 88 => ⟨S16, .i32⟩
  | 89 => ⟨S_, .i32⟩
  | 90 => ⟨S10000, .i32⟩
  | 91 => ⟨S10000, .i1⟩
  | 92 => ⟨S_, .i32⟩
  | 93 => ⟨S10000, .i32⟩
  | 94 => ⟨S10000, .i32⟩
  | 95 => ⟨S10000, .i32⟩
  | 96 => ⟨S10000x1, .i32⟩
  | 97 => ⟨S10000, .i32⟩
  | 98 => ⟨S10000, .i1⟩
  | 99 => ⟨S10000, .i1⟩
  | 100 => ⟨S10000x1, .f32⟩
  | 101 => ⟨S10000x128, .f32⟩
  | 102 => ⟨S10000x128, .f32⟩
  | 103 => ⟨S10000x1, .i1⟩
  | 104 => ⟨S10000x1, .f32⟩
  | 105 => ⟨S10000x128, .f32⟩
  | 106 => ⟨S10000x128, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000, .i1⟩
  | 116 => ⟨S320000, .i1⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S320000, .i1⟩
  | 126 => ⟨S320000, .i1⟩
  | 127 => ⟨S10000x1, .i1⟩
  | _ => ⟨S10000x128, .f32⟩

abbrev hbmTy0_5 (i : Nat) : BufTy := match i % 128 with
  | 0 => ⟨S_, .f32⟩
  | 1 => ⟨S_, .f32⟩
  | 2 => ⟨S10000x128, .i1⟩
  | 3 => ⟨S10000x128, .f32⟩
  | 4 => ⟨S10000x128, .f32⟩
  | 5 => ⟨S1x10000, .i32⟩
  | 6 => ⟨S16, .i32⟩
  | 7 => ⟨S16x1, .i32⟩
  | 8 => ⟨S16x10000, .i32⟩
  | 9 => ⟨S16x10000, .i32⟩
  | 10 => ⟨S16x10000, .i1⟩
  | 11 => ⟨S16x10000x1, .i1⟩
  | 12 => ⟨S1x10000x128, .f32⟩
  | 13 => ⟨S_, .f32⟩
  | 14 => ⟨S_, .f32⟩
  | 15 => ⟨S16x10000x128, .i1⟩
  | 16 => ⟨S16x10000x128, .f32⟩
  | 17 => ⟨S16x10000x128, .f32⟩
  | 18 => ⟨S16x10000x128, .f32⟩
  | 19 => ⟨S_, .f32⟩
  | 20 => ⟨S16x128, .f32⟩
  | 21 => ⟨S_, .f32⟩
  | 22 => ⟨S16x128, .f32⟩
  | 23 => ⟨S10000x1, .i32⟩
  | 24 => ⟨S16x128, .f32⟩
  | 25 => ⟨S10000, .f32⟩
  | 26 => ⟨S_, .f32⟩
  | 27 => ⟨S16, .f32⟩
  | 28 => ⟨S10000x1, .i32⟩
  | 29 => ⟨S16, .f32⟩
  | 30 => ⟨S16x1, .f32⟩
  | 31 => ⟨S16x128, .f32⟩
  | 32 => ⟨S16x128, .f32⟩
  | 33 => ⟨S16x256, .f32⟩
  | 34 => ⟨S10000x128, .f32⟩
  | 35 => ⟨S320000, .f32⟩
  | 36 => ⟨S_, .f32⟩
  | 37 => ⟨S10000, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S10000, .f32⟩
  | 47 => ⟨S_, .f32⟩
  | 48 => ⟨S10000, .f32⟩
  | 49 => ⟨S10000, .f32⟩
  | 50 => ⟨S_, .f32⟩
  | 51 => ⟨S10000, .f32⟩
  | 52 => ⟨S10000, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000, .f32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S320000, .f32⟩
  | 71 => ⟨S320000, .f32⟩
  | 72 => ⟨S320000, .f32⟩
  | 73 => ⟨S_, .f32⟩
  | 74 => ⟨S10000x128, .f32⟩
  | 75 => ⟨S320000x1, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S320000x128, .f32⟩
  | 85 => ⟨S320000x128, .f32⟩
  | 86 => ⟨S320000x128, .f32⟩
  | 87 => ⟨S_, .i32⟩
  | 88 => ⟨S320000, .i32⟩
  | 89 => ⟨S320000, .i1⟩
  | 90 => ⟨S_, .i32⟩
  | 91 => ⟨S320000, .i32⟩
  | 92 => ⟨S320000, .i32⟩
  | 93 => ⟨S320000, .i32⟩
  | 94 => ⟨S320000x1, .i32⟩
  | 95 => ⟨S10000x128, .f32⟩
  | 96 => ⟨S10000, .f32⟩
  | 97 => ⟨S10000x1, .f32⟩
  | 98 => ⟨S10000x128, .f32⟩
  | 99 => ⟨S10000x128, .f32⟩
  | 100 => ⟨S10000x128, .f32⟩
  | 101 => ⟨S1x128, .f32⟩
  | 102 => ⟨S10000x128, .f32⟩
  | 103 => ⟨S10000x128, .f32⟩
  | 104 => ⟨S_, .f32⟩
  | 105 => ⟨S10000x128, .f32⟩
  | 106 => ⟨S10000x128, .f32⟩
  | 107 => ⟨S10000, .f32⟩
  | 108 => ⟨S128, .f32⟩
  | 109 => ⟨S_, .f32⟩
  | 110 => ⟨S_, .f32⟩
  | 111 => ⟨S_, .f32⟩
  | 112 => ⟨S10000, .f32⟩
  | 113 => ⟨S10000, .f32⟩
  | 114 => ⟨S10000, .f32⟩
  | 115 => ⟨S_, .f32⟩
  | 116 => ⟨S_, .f32⟩
  | 117 => ⟨S10000, .f32⟩
  | 118 => ⟨S10000, .f32⟩
  | 119 => ⟨S10000, .f32⟩
  | 120 => ⟨S10000, .i32⟩
  | 121 => ⟨S10000, .i32⟩
  | 122 => ⟨S10000, .f32⟩
  | 123 => ⟨S10000, .i32⟩
  | 124 => ⟨S_, .i32⟩
  | 125 => ⟨S10000, .i32⟩
  | 126 => ⟨S_, .i32⟩
  | 127 => ⟨S16, .i32⟩
  | _ => ⟨S10000x128, .f32⟩

abbrev hbmTy0_6 (i : Nat) : BufTy := match i % 128 with
  | 0 => ⟨S10000x1, .i32⟩
  | 1 => ⟨S16, .i32⟩
  | 2 => ⟨S_, .i32⟩
  | 3 => ⟨S_, .i32⟩
  | 4 => ⟨S16, .i32⟩
  | 5 => ⟨S16, .i32⟩
  | 6 => ⟨S10000, .i32⟩
  | 7 => ⟨S_, .i32⟩
  | 8 => ⟨S10000, .i32⟩
  | 9 => ⟨S10000, .i1⟩
  | 10 => ⟨S_, .i32⟩
  | 11 => ⟨S10000, .i32⟩
  | 12 => ⟨S10000, .i32⟩
  | 13 => ⟨S10000, .i32⟩
  | 14 => ⟨S10000x1, .i32⟩
  | 15 => ⟨S10000, .i32⟩
  | 16 => ⟨S_, .i32⟩
  | 17 => ⟨S10000, .i32⟩
  | 18 => ⟨S10000, .i1⟩
  | 19 => ⟨S_, .i32⟩
  | 20 => ⟨S10000, .i32⟩
  | 21 => ⟨S10000, .i32⟩
  | 22 => ⟨S10000, .i32⟩
  | 23 => ⟨S10000x1, .i32⟩
  | 24 => ⟨S10000, .i32⟩
  | 25 => ⟨S10000, .i32⟩
  | 26 => ⟨S_, .i32⟩
  | 27 => ⟨S10000, .i32⟩
  | 28 => ⟨S_, .i32⟩
  | 29 => ⟨S10000, .i32⟩
  | 30 => ⟨S10000, .i1⟩
  | 31 => ⟨S_, .i32⟩
  | 32 => ⟨S10000, .i32⟩
  | 33 => ⟨S10000, .i32⟩
  | 34 => ⟨S10000, .i32⟩
  | 35 => ⟨S10000x1, .i32⟩
  | 36 => ⟨S10000, .i32⟩
  | 37 => ⟨S10000, .i32⟩
  | 38 => ⟨S_, .i32⟩
  | 39 => ⟨S16, .i32⟩
  | 40 => ⟨S10000x1, .i32⟩
  | 41 => ⟨S16, .i32⟩
  | 42 => ⟨S16, .f32⟩
  | 43 => ⟨S_, .f32⟩
  | 44 => ⟨S16, .f32⟩
  | 45 => ⟨S16, .f32⟩
  | 46 => ⟨S16, .f32⟩
  | 47 => ⟨S16, .i32⟩
  | 48 => ⟨S_, .i32⟩
  | 49 => ⟨S10000, .i32⟩
  | 50 => ⟨S10000, .i1⟩
  | 51 => ⟨S_, .i32⟩
  | 52 => ⟨S10000, .i32⟩
  | 53 => ⟨S10000, .i32⟩
  | 54 => ⟨S10000, .i32⟩
  | 55 => ⟨S10000x1, .i32⟩
  | 56 => ⟨S10000, .i32⟩
  | 57 => ⟨S10000, .i1⟩
  | 58 => ⟨S10000, .i1⟩
  | 59 => ⟨S10000x1, .f32⟩
  | 60 => ⟨S10000x128, .f32⟩
  | 61 => ⟨S10000x128, .f32⟩
  | 62 => ⟨S10000x1, .i1⟩
  | 63 => ⟨S10000x1, .f32⟩
  | 64 => ⟨S10000x128, .f32⟩
  | 65 => ⟨S10000x128, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S320000, .i1⟩
  | 75 => ⟨S320000, .i1⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S320000, .i1⟩
  | 85 => ⟨S320000, .i1⟩
  | 86 => ⟨S10000x1, .i1⟩
  | 87 => ⟨S_, .f32⟩
  | 88 => ⟨S_, .f32⟩
  | 89 => ⟨S10000x128, .i1⟩
  | 90 => ⟨S10000x128, .f32⟩
  | 91 => ⟨S10000x128, .f32⟩
  | 92 => ⟨S1x10000, .i32⟩
  | 93 => ⟨S16, .i32⟩
  | 94 => ⟨S16x1, .i32⟩
  | 95 => ⟨S16x10000, .i32⟩
  | 96 => ⟨S16x10000, .i32⟩
  | 97 => ⟨S16x10000, .i1⟩
  | 98 => ⟨S16x10000x1, .i1⟩
  | 99 => ⟨S1x10000x128, .f32⟩
  | 100 => ⟨S_, .f32⟩
  | 101 => ⟨S_, .f32⟩
  | 102 => ⟨S16x10000x128, .i1⟩
  | 103 => ⟨S16x10000x128, .f32⟩
  | 104 => ⟨S16x10000x128, .f32⟩
  | 105 => ⟨S16x10000x128, .f32⟩
  | 106 => ⟨S_, .f32⟩
  | 107 => ⟨S16x128, .f32⟩
  | 108 => ⟨S_, .f32⟩
  | 109 => ⟨S16x128, .f32⟩
  | 110 => ⟨S10000x1, .i32⟩
  | 111 => ⟨S16x128, .f32⟩
  | 112 => ⟨S10000, .f32⟩
  | 113 => ⟨S_, .f32⟩
  | 114 => ⟨S16, .f32⟩
  | 115 => ⟨S10000x1, .i32⟩
  | 116 => ⟨S16, .f32⟩
  | 117 => ⟨S16x1, .f32⟩
  | 118 => ⟨S16x128, .f32⟩
  | 119 => ⟨S16x128, .f32⟩
  | 120 => ⟨S16x256, .f32⟩
  | 121 => ⟨S16x256, .f32⟩
  | 122 => ⟨S16x256, .f32⟩
  | 123 => ⟨S16x256, .f32⟩
  | 124 => ⟨S16x128, .f32⟩
  | 125 => ⟨S1x128, .f32⟩
  | 126 => ⟨S16x128, .f32⟩
  | 127 => ⟨S16x128, .f32⟩
  | _ => ⟨S10000x128, .f32⟩

abbrev hbmTy0_7 (i : Nat) : BufTy := match i % 128 with
  | 0 => ⟨S_, .f32⟩
  | 1 => ⟨S16x128, .f32⟩
  | 2 => ⟨S16x128, .f32⟩
  | 3 => ⟨S16x64, .f32⟩
  | 4 => ⟨S1x64, .f32⟩
  | 5 => ⟨S16x64, .f32⟩
  | 6 => ⟨S16x64, .f32⟩
  | 7 => ⟨S_, .f32⟩
  | 8 => ⟨S16x64, .f32⟩
  | 9 => ⟨S16x64, .f32⟩
  | 10 => ⟨S16x10, .f32⟩
  | 11 => ⟨S1x10, .f32⟩
  | 12 => ⟨S16x10, .f32⟩
  | 13 => ⟨S16x10, .f32⟩
  | 14 => ⟨S_, .f32⟩
  | 15 => ⟨S16, .f32⟩
  | 16 => ⟨S_, .f32⟩
  | 17 => ⟨S16, .f32⟩
  | 18 => ⟨S16, .f32⟩
  | 19 => ⟨S16x1, .f32⟩
  | 20 => ⟨S16x10, .f32⟩
  | 21 => ⟨S16x10, .f32⟩
  | 22 => ⟨S16x10, .f32⟩
  | 23 => ⟨S_, .f32⟩
  | 24 => ⟨S16, .f32⟩
  | 25 => ⟨S16x1, .f32⟩
  | 26 => ⟨S16x1, .f32⟩
  | 27 => ⟨S16x10, .f32⟩
  | 28 => ⟨S16x10, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_v16 : Ref sig .tc := ⟨.hbm, 43, rfl⟩
abbrev main_v17 : Ref sig .tc := ⟨.hbm, 44, rfl⟩
abbrev main_cst_4 : Ref sig .tc := ⟨.hbm, 45, rfl⟩
abbrev main_v18 : Ref sig .tc := ⟨.hbm, 46, rfl⟩
abbrev main_v19 : Ref sig .tc := ⟨.hbm, 47, rfl⟩
abbrev main_c_5 : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_7 : Ref sig .tc := ⟨.hbm, 57, rfl⟩
abbrev main_v27 : Ref sig .tc := ⟨.hbm, 58, rfl⟩
abbrev main_v28 : Ref sig .tc := ⟨.hbm, 59, rfl⟩
abbrev main_c_8 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_9 : Ref sig .tc := ⟨.hbm, 68, rfl⟩
abbrev main_v36 : Ref sig .tc := ⟨.hbm, 69, rfl⟩
abbrev main_v37 : Ref sig .tc := ⟨.hbm, 70, rfl⟩
abbrev main_c_10 : Ref sig .tc := ⟨.hbm, 71, rfl⟩
abbrev main_v38 : Ref sig .tc := ⟨.hbm, 72, rfl⟩
abbrev main_v39 : Ref sig .tc := ⟨.hbm, 73, rfl⟩
abbrev main_c_11 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_12 : Ref sig .tc := ⟨.hbm, 82, rfl⟩
abbrev main_v47 : Ref sig .tc := ⟨.hbm, 83, rfl⟩
abbrev main_v48 : Ref sig .tc := ⟨.hbm, 84, rfl⟩
abbrev main_c_13 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_call0_cst : Ref sig .tc := ⟨.hbm, 99, rfl⟩
abbrev main_call0_v0 : Ref sig .tc := ⟨.hbm, 100, rfl⟩
abbrev main_v62 : Ref sig .tc := ⟨.hbm, 101, rfl⟩
abbrev main_v63 : Ref sig .tc := ⟨.hbm, 102, rfl⟩
abbrev main_call1_v0 : Ref sig .tc := ⟨.hbm, 103, rfl⟩
abbrev main_call1_cst : Ref sig .tc := ⟨.hbm, 104, rfl⟩
abbrev main_call1_v1 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_14 : Ref sig .tc := ⟨.hbm, 110, rfl⟩
abbrev main_call2_v0 : Ref sig .tc := ⟨.hbm, 111, rfl⟩
abbrev main_call2_v1 : Ref sig .tc := ⟨.hbm, 112, rfl⟩
abbrev main_v68 : Ref sig .tc := ⟨.hbm, 113, rfl⟩
abbrev main_v69 : Ref sig .tc := ⟨.hbm, 114, rfl⟩
abbrev main_call3_v0 : Ref sig .tc := ⟨.hbm, 115, rfl⟩
abbrev main_call3_v1_0 : Ref sig .tc := ⟨.hbm, 116, rfl⟩
abbrev main_call3_v1_1 : Ref sig .tc := ⟨.hbm, 117, rfl⟩
abbrev main_v70 : Ref sig .tc := ⟨.hbm, 118, rfl⟩
abbrev main_c_15 : Ref sig .tc := ⟨.hbm, 119, rfl⟩
abbrev main_v71 : Ref sig .tc := ⟨.hbm, 120, rfl⟩
abbrev main_c_16 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_call4_call0_c : Ref sig .tc := ⟨.hbm, 125, rfl⟩
abbrev main_call4_call0_v0 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_17 : Ref sig .tc := ⟨.hbm, 130, rfl⟩
abbrev main_v78 : Ref sig .tc := ⟨.hbm, 131, rfl⟩
abbrev main_v79 : Ref sig .tc := ⟨.hbm, 132, rfl⟩
abbrev main_c_18 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_19 : Ref sig .tc := ⟨.hbm, 139, rfl⟩
abbrev main_v85 : Ref sig .tc := ⟨.hbm, 140, rfl⟩
abbrev main_v86 : Ref sig .tc := ⟨.hbm, 141, rfl⟩
abbrev main_c_20 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_21 : Ref sig .tc := ⟨.hbm, 149, rfl⟩
abbrev main_v93 : Ref sig .tc := ⟨.hbm, 150, rfl⟩
abbrev main_c_22 : Ref sig .tc := ⟨.hbm, 151, rfl⟩
abbrev main_v94 : Ref sig .tc := ⟨.hbm, 152, rfl⟩
abbrev main_v95 : Ref sig .tc := ⟨.hbm, 153, rfl⟩
abbrev main_c_23 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_c_24 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_25 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_c_26 : Ref sig .tc := ⟨.hbm, 171, rfl⟩
abbrev main_v110 : Ref sig .tc := ⟨.hbm, 172, rfl⟩
abbrev main_v111 : Ref sig .tc := ⟨.hbm, 173, rfl⟩
abbrev main_c_27 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_c_28 : Ref sig .tc := ⟨.hbm, 189, rfl⟩
abbrev main_v126 : Ref sig .tc := ⟨.hbm, 190, rfl⟩
abbrev main_v127 : Ref sig .tc := ⟨.hbm, 191, rfl⟩
abbrev main_c_29 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_c_30 : Ref sig .tc := ⟨.hbm, 199, rfl⟩
abbrev main_v134 : Ref sig .tc := ⟨.hbm, 200, rfl⟩
abbrev main_v135 : Ref sig .tc := ⟨.hbm, 201, rfl⟩
abbrev main_c_31 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_32 : Ref sig .tc := ⟨.hbm, 210, rfl⟩
abbrev main_call5_v0 : Ref sig .tc := ⟨.hbm, 211, rfl⟩
abbrev main_call5_v1 : Ref sig .tc := ⟨.hbm, 212, rfl⟩
abbrev main_call5_v2 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_cst_33 : Ref sig .tc := ⟨.hbm, 223, rfl⟩
abbrev main_call6_v0 : Ref sig .tc := ⟨.hbm, 224, rfl⟩
abbrev main_call6_v1 : Ref sig .tc := ⟨.hbm, 225, rfl⟩
abbrev main_call6_v2 : Ref sig .tc := ⟨.hbm, 226, rfl⟩
abbrev main_call6_v3 : Ref sig .tc := ⟨.hbm, 227, rfl⟩
abbrev main_v152 : Ref sig .tc := ⟨.hbm, 228, rfl⟩
abbrev main_cst_34 : Ref sig .tc := ⟨.hbm, 229, rfl⟩
abbrev main_v153 : Ref sig .tc := ⟨.hbm, 230, rfl⟩
abbrev main_cst_35 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_cst_36 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_cst_37 : Ref sig .tc := ⟨.hbm, 246, rfl⟩
abbrev main_v167 : Ref sig .tc := ⟨.hbm, 247, rfl⟩
abbrev main_c_38 : Ref sig .tc := ⟨.hbm, 248, rfl⟩
abbrev main_v168 : Ref sig .tc := ⟨.hbm, 249, rfl⟩
abbrev main_v169 : Ref sig .tc := ⟨.hbm, 250, rfl⟩
abbrev main_c_39 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_cst_40 : Ref sig .tc := ⟨.hbm, 257, rfl⟩
abbrev main_v175 : Ref sig .tc := ⟨.hbm, 258, rfl⟩
abbrev main_v176 : Ref sig .tc := ⟨.hbm, 259, rfl⟩
abbrev main_cst_41 : Ref sig .tc := ⟨.hbm, 260, rfl⟩
abbrev main_v177 : Ref sig .tc := ⟨.hbm, 261, rfl⟩
abbrev main_v178 : Ref sig .tc := ⟨.hbm, 262, rfl⟩
abbrev main_c_42 : Ref sig .tc := ⟨.hbm, 263, rfl⟩
abbrev main_v179 : Ref sig .tc := ⟨.hbm, 264, rfl⟩
abbrev main_v180 : Ref sig .tc := ⟨.hbm, 265, rfl⟩
abbrev main_c_43 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_c_44 : Ref sig .tc := ⟨.hbm, 272, rfl⟩
abbrev main_v186 : Ref sig .tc := ⟨.hbm, 273, rfl⟩
abbrev main_v187 : Ref sig .tc := ⟨.hbm, 274, rfl⟩
abbrev main_c_45 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_cst_46 : Ref sig .tc := ⟨.hbm, 283, rfl⟩
abbrev main_v195 : Ref sig .tc := ⟨.hbm, 284, rfl⟩
abbrev main_v196 : Ref sig .tc := ⟨.hbm, 285, rfl⟩
abbrev main_c_47 : Ref sig .tc := ⟨.hbm, 286, rfl⟩
abbrev main_v197 : Ref sig .tc := ⟨.hbm, 287, rfl⟩
abbrev main_v198 : Ref sig .tc := ⟨.hbm, 288, rfl⟩
abbrev main_c_48 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_c_49 : Ref sig .tc := ⟨.hbm, 297, rfl⟩
abbrev main_v206 : Ref sig .tc := ⟨.hbm, 298, rfl⟩
abbrev main_v207 : Ref sig .tc := ⟨.hbm, 299, rfl⟩
abbrev main_c_50 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_call7_cst : Ref sig .tc := ⟨.hbm, 314, rfl⟩
abbrev main_call7_v0 : Ref sig .tc := ⟨.hbm, 315, rfl⟩
abbrev main_v221 : Ref sig .tc := ⟨.hbm, 316, rfl⟩
abbrev main_v222 : Ref sig .tc := ⟨.hbm, 317, rfl⟩
abbrev main_call8_v0 : Ref sig .tc := ⟨.hbm, 318, rfl⟩
abbrev main_call8_cst : Ref sig .tc := ⟨.hbm, 319, rfl⟩
abbrev main_call8_v1 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_cst_51 : Ref sig .tc := ⟨.hbm, 325, rfl⟩
abbrev main_call9_v0 : Ref sig .tc := ⟨.hbm, 326, rfl⟩
abbrev main_call9_v1 : Ref sig .tc := ⟨.hbm, 327, rfl⟩
abbrev main_v227 : Ref sig .tc := ⟨.hbm, 328, rfl⟩
abbrev main_v228 : Ref sig .tc := ⟨.hbm, 329, rfl⟩
abbrev main_call10_v0 : Ref sig .tc := ⟨.hbm, 330, rfl⟩
abbrev main_call10_v1_0 : Ref sig .tc := ⟨.hbm, 331, rfl⟩
abbrev main_call10_v1_1 : Ref sig .tc := ⟨.hbm, 332, rfl⟩
abbrev main_v229 : Ref sig .tc := ⟨.hbm, 333, rfl⟩
abbrev main_c_52 : Ref sig .tc := ⟨.hbm, 334, rfl⟩
abbrev main_v230 : Ref sig .tc := ⟨.hbm, 335, rfl⟩
abbrev main_c_53 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_call11_call0_c : Ref sig .tc := ⟨.hbm, 340, rfl⟩
abbrev main_call11_call0_v0 : Ref sig .tc := ⟨.hbm, 341, rfl⟩
abbrev main_v234 : Ref sig .tc := ⟨.hbm, 342, rfl⟩
abbrev main_v235 : Ref sig .tc := ⟨.hbm, 343, rfl⟩
abbrev main_v236 : Ref sig .tc := ⟨.hbm, 344, rfl⟩
abbrev main_c_54 : Ref sig .tc := ⟨.hbm, 345, rfl⟩
abbrev main_v237 : Ref sig .tc := ⟨.hbm, 346, rfl⟩
abbrev main_v238 : Ref sig .tc := ⟨.hbm, 347, rfl⟩
abbrev main_c_55 : Ref sig .tc := ⟨.hbm, 348, rfl⟩
abbrev main_v239 : Ref sig .tc := ⟨.hbm, 349, rfl⟩
abbrev main_v240 : Ref sig .tc := ⟨.hbm, 350, rfl⟩
abbrev main_v241 : Ref sig .tc := ⟨.hbm, 351, rfl⟩
abbrev main_v242 : Ref sig .tc := ⟨.hbm, 352, rfl⟩
abbrev main_v243 : Ref sig .tc := ⟨.hbm, 353, rfl⟩
abbrev main_c_56 : Ref sig .tc := ⟨.hbm, 354, rfl⟩
abbrev main_v244 : Ref sig .tc := ⟨.hbm, 355, rfl⟩
abbrev main_v245 : Ref sig .tc := ⟨.hbm, 356, rfl⟩
abbrev main_c_57 : Ref sig .tc := ⟨.hbm, 357, rfl⟩
abbrev main_v246 : Ref sig .tc := ⟨.hbm, 358, rfl⟩
abbrev main_v247 : Ref sig .tc := ⟨.hbm, 359, rfl⟩
abbrev main_v248 : Ref sig .tc := ⟨.hbm, 360, rfl⟩
abbrev main_v249 : Ref sig .tc := ⟨.hbm, 361, rfl⟩
abbrev main_v250 : Ref sig .tc := ⟨.hbm, 362, rfl⟩
abbrev main_v251 : Ref sig .tc := ⟨.hbm, 363, rfl⟩
abbrev main_c_58 : Ref sig .tc := ⟨.hbm, 364, rfl⟩
abbrev main_v252 : Ref sig .tc := ⟨.hbm, 365, rfl⟩
abbrev main_c_59 : Ref sig .tc := ⟨.hbm, 366, rfl⟩
abbrev main_v253 : Ref sig .tc := ⟨.hbm, 367, rfl⟩
abbrev main_v254 : Ref sig .tc := ⟨.hbm, 368, rfl⟩
abbrev main_c_60 : Ref sig .tc := ⟨.hbm, 369, rfl⟩
abbrev main_v255 : Ref sig .tc := ⟨.hbm, 370, rfl⟩
abbrev main_v256 : Ref sig .tc := ⟨.hbm, 371, rfl⟩
abbrev main_v257 : Ref sig .tc := ⟨.hbm, 372, rfl⟩
abbrev main_v258 : Ref sig .tc := ⟨.hbm, 373, rfl⟩
abbrev main_v259 : Ref sig .tc := ⟨.hbm, 374, rfl⟩
abbrev main_v260 : Ref sig .tc := ⟨.hbm, 375, rfl⟩
abbrev main_c_61 : Ref sig .tc := ⟨.hbm, 376, rfl⟩
abbrev main_v261 : Ref sig .tc := ⟨.hbm, 377, rfl⟩
abbrev main_v262 : Ref sig .tc := ⟨.hbm, 378, rfl⟩
abbrev main_v263 : Ref sig .tc := ⟨.hbm, 379, rfl⟩
abbrev main_v264 : Ref sig .tc := ⟨.hbm, 380, rfl⟩
abbrev main_cst_62 : Ref sig .tc := ⟨.hbm, 381, rfl⟩
abbrev main_v265 : Ref sig .tc := ⟨.hbm, 382, rfl⟩
abbrev main_v266 : Ref sig .tc := ⟨.hbm, 383, rfl⟩
abbrev main_v267 : Ref sig .tc := ⟨.hbm, 384, rfl⟩
abbrev main_v268 : Ref sig .tc := ⟨.hbm, 385, rfl⟩
abbrev main_c_63 : Ref sig .tc := ⟨.hbm, 386, rfl⟩
abbrev main_v269 : Ref sig .tc := ⟨.hbm, 387, rfl⟩
abbrev main_v270 : Ref sig .tc := ⟨.hbm, 388, rfl⟩
abbrev main_c_64 : Ref sig .tc := ⟨.hbm, 389, rfl⟩
abbrev main_v271 : Ref sig .tc := ⟨.hbm, 390, rfl⟩
abbrev main_v272 : Ref sig .tc := ⟨.hbm, 391, rfl⟩
abbrev main_v273 : Ref sig .tc := ⟨.hbm, 392, rfl⟩
abbrev main_v274 : Ref sig .tc := ⟨.hbm, 393, rfl⟩
abbrev main_v275 : Ref sig .tc := ⟨.hbm, 394, rfl⟩
abbrev main_v276 : Ref sig .tc := ⟨.hbm, 395, rfl⟩
abbrev main_v277 : Ref sig .tc := ⟨.hbm, 396, rfl⟩
abbrev main_v278 : Ref sig .tc := ⟨.hbm, 397, rfl⟩
abbrev main_v279 : Ref sig .tc := ⟨.hbm, 398, rfl⟩
abbrev main_v280 : Ref sig .tc := ⟨.hbm, 399, rfl⟩
abbrev main_v281 : Ref sig .tc := ⟨.hbm, 400, rfl⟩
abbrev main_v282 : Ref sig .tc := ⟨.hbm, 401, rfl⟩
abbrev main_v283 : Ref sig .tc := ⟨.hbm, 402, rfl⟩
abbrev main_v284 : Ref sig .tc := ⟨.hbm, 403, rfl⟩
abbrev main_c_65 : Ref sig .tc := ⟨.hbm, 404, rfl⟩
abbrev main_v285 : Ref sig .tc := ⟨.hbm, 405, rfl⟩
abbrev main_v286 : Ref sig .tc := ⟨.hbm, 406, rfl⟩
abbrev main_c_66 : Ref sig .tc := ⟨.hbm, 407, rfl⟩
abbrev main_v287 : Ref sig .tc := ⟨.hbm, 408, rfl⟩
abbrev main_v288 : Ref sig .tc := ⟨.hbm, 409, rfl⟩
abbrev main_v289 : Ref sig .tc := ⟨.hbm, 410, rfl⟩
abbrev main_v290 : Ref sig .tc := ⟨.hbm, 411, rfl⟩
abbrev main_v291 : Ref sig .tc := ⟨.hbm, 412, rfl⟩
abbrev main_v292 : Ref sig .tc := ⟨.hbm, 413, rfl⟩
abbrev main_c_67 : Ref sig .tc := ⟨.hbm, 414, rfl⟩
abbrev main_v293 : Ref sig .tc := ⟨.hbm, 415, rfl⟩
abbrev main_v294 : Ref sig .tc := ⟨.hbm, 416, rfl⟩
abbrev main_c_68 : Ref sig .tc := ⟨.hbm, 417, rfl⟩
abbrev main_v295 : Ref sig .tc := ⟨.hbm, 418, rfl⟩
abbrev main_v296 : Ref sig .tc := ⟨.hbm, 419, rfl⟩
abbrev main_v297 : Ref sig .tc := ⟨.hbm, 420, rfl⟩
abbrev main_v298 : Ref sig .tc := ⟨.hbm, 421, rfl⟩
abbrev main_v299 : Ref sig .tc := ⟨.hbm, 422, rfl⟩
abbrev main_v300 : Ref sig .tc := ⟨.hbm, 423, rfl⟩
abbrev main_v301 : Ref sig .tc := ⟨.hbm, 424, rfl⟩
abbrev main_cst_69 : Ref sig .tc := ⟨.hbm, 425, rfl⟩
abbrev main_call12_v0 : Ref sig .tc := ⟨.hbm, 426, rfl⟩
abbrev main_call12_v1 : Ref sig .tc := ⟨.hbm, 427, rfl⟩
abbrev main_call12_v2 : Ref sig .tc := ⟨.hbm, 428, rfl⟩
abbrev main_v302 : Ref sig .tc := ⟨.hbm, 429, rfl⟩
abbrev main_v303 : Ref sig .tc := ⟨.hbm, 430, rfl⟩
abbrev main_v304 : Ref sig .tc := ⟨.hbm, 431, rfl⟩
abbrev main_v305 : Ref sig .tc := ⟨.hbm, 432, rfl⟩
abbrev main_v306 : Ref sig .tc := ⟨.hbm, 433, rfl⟩
abbrev main_v307 : Ref sig .tc := ⟨.hbm, 434, rfl⟩
abbrev main_v308 : Ref sig .tc := ⟨.hbm, 435, rfl⟩
abbrev main_v309 : Ref sig .tc := ⟨.hbm, 436, rfl⟩
abbrev main_v310 : Ref sig .tc := ⟨.hbm, 437, rfl⟩
abbrev main_cst_70 : Ref sig .tc := ⟨.hbm, 438, rfl⟩
abbrev main_call13_v0 : Ref sig .tc := ⟨.hbm, 439, rfl⟩
abbrev main_call13_v1 : Ref sig .tc := ⟨.hbm, 440, rfl⟩
abbrev main_call13_v2 : Ref sig .tc := ⟨.hbm, 441, rfl⟩
abbrev main_call13_v3 : Ref sig .tc := ⟨.hbm, 442, rfl⟩
abbrev main_v311 : Ref sig .tc := ⟨.hbm, 443, rfl⟩
abbrev main_cst_71 : Ref sig .tc := ⟨.hbm, 444, rfl⟩
abbrev main_v312 : Ref sig .tc := ⟨.hbm, 445, rfl⟩
abbrev main_cst_72 : Ref sig .tc := ⟨.hbm, 446, rfl⟩
abbrev main_v313 : Ref sig .tc := ⟨.hbm, 447, rfl⟩
abbrev main_v314 : Ref sig .tc := ⟨.hbm, 448, rfl⟩
abbrev main_v315 : Ref sig .tc := ⟨.hbm, 449, rfl⟩
abbrev main_v316 : Ref sig .tc := ⟨.hbm, 450, rfl⟩
abbrev main_cst_73 : Ref sig .tc := ⟨.hbm, 451, rfl⟩
abbrev main_v317 : Ref sig .tc := ⟨.hbm, 452, rfl⟩
abbrev main_v318 : Ref sig .tc := ⟨.hbm, 453, rfl⟩
abbrev main_v319 : Ref sig .tc := ⟨.hbm, 454, rfl⟩
abbrev main_v320 : Ref sig .tc := ⟨.hbm, 455, rfl⟩
abbrev main_v321 : Ref sig .tc := ⟨.hbm, 456, rfl⟩
abbrev main_v322 : Ref sig .tc := ⟨.hbm, 457, rfl⟩
abbrev main_v323 : Ref sig .tc := ⟨.hbm, 458, rfl⟩
abbrev main_v324 : Ref sig .tc := ⟨.hbm, 459, rfl⟩
abbrev main_v325 : Ref sig .tc := ⟨.hbm, 460, rfl⟩
abbrev main_cst_74 : Ref sig .tc := ⟨.hbm, 461, rfl⟩
abbrev main_v326 : Ref sig .tc := ⟨.hbm, 462, rfl⟩
abbrev main_c_75 : Ref sig .tc := ⟨.hbm, 463, rfl⟩
abbrev main_v327 : Ref sig .tc := ⟨.hbm, 464, rfl⟩
abbrev main_v328 : Ref sig .tc := ⟨.hbm, 465, rfl⟩
abbrev main_c_76 : Ref sig .tc := ⟨.hbm, 466, rfl⟩
abbrev main_v329 : Ref sig .tc := ⟨.hbm, 467, rfl⟩
abbrev main_v330 : Ref sig .tc := ⟨.hbm, 468, rfl⟩
abbrev main_v331 : Ref sig .tc := ⟨.hbm, 469, rfl⟩
abbrev main_v332 : Ref sig .tc := ⟨.hbm, 470, rfl⟩
abbrev main_v333 : Ref sig .tc := ⟨.hbm, 471, rfl⟩
abbrev main_cst_77 : Ref sig .tc := ⟨.hbm, 472, rfl⟩
abbrev main_v334 : Ref sig .tc := ⟨.hbm, 473, rfl⟩
abbrev main_v335 : Ref sig .tc := ⟨.hbm, 474, rfl⟩
abbrev main_cst_78 : Ref sig .tc := ⟨.hbm, 475, rfl⟩
abbrev main_v336 : Ref sig .tc := ⟨.hbm, 476, rfl⟩
abbrev main_v337 : Ref sig .tc := ⟨.hbm, 477, rfl⟩
abbrev main_c_79 : Ref sig .tc := ⟨.hbm, 478, rfl⟩
abbrev main_v338 : Ref sig .tc := ⟨.hbm, 479, rfl⟩
abbrev main_v339 : Ref sig .tc := ⟨.hbm, 480, rfl⟩
abbrev main_c_80 : Ref sig .tc := ⟨.hbm, 481, rfl⟩
abbrev main_v340 : Ref sig .tc := ⟨.hbm, 482, rfl⟩
abbrev main_v341 : Ref sig .tc := ⟨.hbm, 483, rfl⟩
abbrev main_v342 : Ref sig .tc := ⟨.hbm, 484, rfl⟩
abbrev main_v343 : Ref sig .tc := ⟨.hbm, 485, rfl⟩
abbrev main_v344 : Ref sig .tc := ⟨.hbm, 486, rfl⟩
abbrev main_c_81 : Ref sig .tc := ⟨.hbm, 487, rfl⟩
abbrev main_v345 : Ref sig .tc := ⟨.hbm, 488, rfl⟩
abbrev main_v346 : Ref sig .tc := ⟨.hbm, 489, rfl⟩
abbrev main_c_82 : Ref sig .tc := ⟨.hbm, 490, rfl⟩
abbrev main_v347 : Ref sig .tc := ⟨.hbm, 491, rfl⟩
abbrev main_v348 : Ref sig .tc := ⟨.hbm, 492, rfl⟩
abbrev main_v349 : Ref sig .tc := ⟨.hbm, 493, rfl⟩
abbrev main_v350 : Ref sig .tc := ⟨.hbm, 494, rfl⟩
abbrev main_v351 : Ref sig .tc := ⟨.hbm, 495, rfl⟩
abbrev main_v352 : Ref sig .tc := ⟨.hbm, 496, rfl⟩
abbrev main_v353 : Ref sig .tc := ⟨.hbm, 497, rfl⟩
abbrev main_cst_83 : Ref sig .tc := ⟨.hbm, 498, rfl⟩
abbrev main_v354 : Ref sig .tc := ⟨.hbm, 499, rfl⟩
abbrev main_v355 : Ref sig .tc := ⟨.hbm, 500, rfl⟩
abbrev main_c_84 : Ref sig .tc := ⟨.hbm, 501, rfl⟩
abbrev main_v356 : Ref sig .tc := ⟨.hbm, 502, rfl⟩
abbrev main_v357 : Ref sig .tc := ⟨.hbm, 503, rfl⟩
abbrev main_c_85 : Ref sig .tc := ⟨.hbm, 504, rfl⟩
abbrev main_v358 : Ref sig .tc := ⟨.hbm, 505, rfl⟩
abbrev main_v359 : Ref sig .tc := ⟨.hbm, 506, rfl⟩
abbrev main_v360 : Ref sig .tc := ⟨.hbm, 507, rfl⟩
abbrev main_v361 : Ref sig .tc := ⟨.hbm, 508, rfl⟩
abbrev main_v362 : Ref sig .tc := ⟨.hbm, 509, rfl⟩
abbrev main_v363 : Ref sig .tc := ⟨.hbm, 510, rfl⟩
abbrev main_v364 : Ref sig .tc := ⟨.hbm, 511, rfl⟩
abbrev main_c_86 : Ref sig .tc := ⟨.hbm, 512, rfl⟩
abbrev main_v365 : Ref sig .tc := ⟨.hbm, 513, rfl⟩
abbrev main_v366 : Ref sig .tc := ⟨.hbm, 514, rfl⟩
abbrev main_c_87 : Ref sig .tc := ⟨.hbm, 515, rfl⟩
abbrev main_v367 : Ref sig .tc := ⟨.hbm, 516, rfl⟩
abbrev main_v368 : Ref sig .tc := ⟨.hbm, 517, rfl⟩
abbrev main_v369 : Ref sig .tc := ⟨.hbm, 518, rfl⟩
abbrev main_v370 : Ref sig .tc := ⟨.hbm, 519, rfl⟩
abbrev main_v371 : Ref sig .tc := ⟨.hbm, 520, rfl⟩
abbrev main_v372 : Ref sig .tc := ⟨.hbm, 521, rfl⟩
abbrev main_v373 : Ref sig .tc := ⟨.hbm, 522, rfl⟩
abbrev main_v374 : Ref sig .tc := ⟨.hbm, 523, rfl⟩
abbrev main_v375 : Ref sig .tc := ⟨.hbm, 524, rfl⟩
abbrev main_v376 : Ref sig .tc := ⟨.hbm, 525, rfl⟩
abbrev main_v377 : Ref sig .tc := ⟨.hbm, 526, rfl⟩
abbrev main_v378 : Ref sig .tc := ⟨.hbm, 527, rfl⟩
abbrev main_v379 : Ref sig .tc := ⟨.hbm, 528, rfl⟩
abbrev main_call14_cst : Ref sig .tc := ⟨.hbm, 529, rfl⟩
abbrev main_call14_v0 : Ref sig .tc := ⟨.hbm, 530, rfl⟩
abbrev main_v380 : Ref sig .tc := ⟨.hbm, 531, rfl⟩
abbrev main_v381 : Ref sig .tc := ⟨.hbm, 532, rfl⟩
abbrev main_call15_v0 : Ref sig .tc := ⟨.hbm, 533, rfl⟩
abbrev main_call15_cst : Ref sig .tc := ⟨.hbm, 534, rfl⟩
abbrev main_call15_v1 : Ref sig .tc := ⟨.hbm, 535, rfl⟩
abbrev main_v382 : Ref sig .tc := ⟨.hbm, 536, rfl⟩
abbrev main_v383 : Ref sig .tc := ⟨.hbm, 537, rfl⟩
abbrev main_v384 : Ref sig .tc := ⟨.hbm, 538, rfl⟩
abbrev main_v385 : Ref sig .tc := ⟨.hbm, 539, rfl⟩
abbrev main_cst_88 : Ref sig .tc := ⟨.hbm, 540, rfl⟩
abbrev main_call16_v0 : Ref sig .tc := ⟨.hbm, 541, rfl⟩
abbrev main_call16_v1 : Ref sig .tc := ⟨.hbm, 542, rfl⟩
abbrev main_v386 : Ref sig .tc := ⟨.hbm, 543, rfl⟩
abbrev main_v387 : Ref sig .tc := ⟨.hbm, 544, rfl⟩
abbrev main_call17_v0 : Ref sig .tc := ⟨.hbm, 545, rfl⟩
abbrev main_call17_v1_0 : Ref sig .tc := ⟨.hbm, 546, rfl⟩
abbrev main_call17_v1_1 : Ref sig .tc := ⟨.hbm, 547, rfl⟩
abbrev main_v388 : Ref sig .tc := ⟨.hbm, 548, rfl⟩
abbrev main_c_89 : Ref sig .tc := ⟨.hbm, 549, rfl⟩
abbrev main_v389 : Ref sig .tc := ⟨.hbm, 550, rfl⟩
abbrev main_c_90 : Ref sig .tc := ⟨.hbm, 551, rfl⟩
abbrev main_v390 : Ref sig .tc := ⟨.hbm, 552, rfl⟩
abbrev main_v391 : Ref sig .tc := ⟨.hbm, 553, rfl⟩
abbrev main_v392 : Ref sig .tc := ⟨.hbm, 554, rfl⟩
abbrev main_call18_call0_c : Ref sig .tc := ⟨.hbm, 555, rfl⟩
abbrev main_call18_call0_v0 : Ref sig .tc := ⟨.hbm, 556, rfl⟩
abbrev main_v393 : Ref sig .tc := ⟨.hbm, 557, rfl⟩
abbrev main_v394 : Ref sig .tc := ⟨.hbm, 558, rfl⟩
abbrev main_v395 : Ref sig .tc := ⟨.hbm, 559, rfl⟩
abbrev main_c_91 : Ref sig .tc := ⟨.hbm, 560, rfl⟩
abbrev main_v396 : Ref sig .tc := ⟨.hbm, 561, rfl⟩
abbrev main_v397 : Ref sig .tc := ⟨.hbm, 562, rfl⟩
abbrev main_c_92 : Ref sig .tc := ⟨.hbm, 563, rfl⟩
abbrev main_v398 : Ref sig .tc := ⟨.hbm, 564, rfl⟩
abbrev main_v399 : Ref sig .tc := ⟨.hbm, 565, rfl⟩
abbrev main_v400 : Ref sig .tc := ⟨.hbm, 566, rfl⟩
abbrev main_v401 : Ref sig .tc := ⟨.hbm, 567, rfl⟩
abbrev main_v402 : Ref sig .tc := ⟨.hbm, 568, rfl⟩
abbrev main_c_93 : Ref sig .tc := ⟨.hbm, 569, rfl⟩
abbrev main_v403 : Ref sig .tc := ⟨.hbm, 570, rfl⟩
abbrev main_v404 : Ref sig .tc := ⟨.hbm, 571, rfl⟩
abbrev main_c_94 : Ref sig .tc := ⟨.hbm, 572, rfl⟩
abbrev main_v405 : Ref sig .tc := ⟨.hbm, 573, rfl⟩
abbrev main_v406 : Ref sig .tc := ⟨.hbm, 574, rfl⟩
abbrev main_v407 : Ref sig .tc := ⟨.hbm, 575, rfl⟩
abbrev main_v408 : Ref sig .tc := ⟨.hbm, 576, rfl⟩
abbrev main_v409 : Ref sig .tc := ⟨.hbm, 577, rfl⟩
abbrev main_v410 : Ref sig .tc := ⟨.hbm, 578, rfl⟩
abbrev main_c_95 : Ref sig .tc := ⟨.hbm, 579, rfl⟩
abbrev main_v411 : Ref sig .tc := ⟨.hbm, 580, rfl⟩
abbrev main_c_96 : Ref sig .tc := ⟨.hbm, 581, rfl⟩
abbrev main_v412 : Ref sig .tc := ⟨.hbm, 582, rfl⟩
abbrev main_v413 : Ref sig .tc := ⟨.hbm, 583, rfl⟩
abbrev main_c_97 : Ref sig .tc := ⟨.hbm, 584, rfl⟩
abbrev main_v414 : Ref sig .tc := ⟨.hbm, 585, rfl⟩
abbrev main_v415 : Ref sig .tc := ⟨.hbm, 586, rfl⟩
abbrev main_v416 : Ref sig .tc := ⟨.hbm, 587, rfl⟩
abbrev main_v417 : Ref sig .tc := ⟨.hbm, 588, rfl⟩
abbrev main_v418 : Ref sig .tc := ⟨.hbm, 589, rfl⟩
abbrev main_v419 : Ref sig .tc := ⟨.hbm, 590, rfl⟩
abbrev main_c_98 : Ref sig .tc := ⟨.hbm, 591, rfl⟩
abbrev main_v420 : Ref sig .tc := ⟨.hbm, 592, rfl⟩
abbrev main_v421 : Ref sig .tc := ⟨.hbm, 593, rfl⟩
abbrev main_v422 : Ref sig .tc := ⟨.hbm, 594, rfl⟩
abbrev main_v423 : Ref sig .tc := ⟨.hbm, 595, rfl⟩
abbrev main_cst_99 : Ref sig .tc := ⟨.hbm, 596, rfl⟩
abbrev main_v424 : Ref sig .tc := ⟨.hbm, 597, rfl⟩
abbrev main_v425 : Ref sig .tc := ⟨.hbm, 598, rfl⟩
abbrev main_v426 : Ref sig .tc := ⟨.hbm, 599, rfl⟩
abbrev main_v427 : Ref sig .tc := ⟨.hbm, 600, rfl⟩
abbrev main_c_100 : Ref sig .tc := ⟨.hbm, 601, rfl⟩
abbrev main_v428 : Ref sig .tc := ⟨.hbm, 602, rfl⟩
abbrev main_v429 : Ref sig .tc := ⟨.hbm, 603, rfl⟩
abbrev main_c_101 : Ref sig .tc := ⟨.hbm, 604, rfl⟩
abbrev main_v430 : Ref sig .tc := ⟨.hbm, 605, rfl⟩
abbrev main_v431 : Ref sig .tc := ⟨.hbm, 606, rfl⟩
abbrev main_v432 : Ref sig .tc := ⟨.hbm, 607, rfl⟩
abbrev main_v433 : Ref sig .tc := ⟨.hbm, 608, rfl⟩
abbrev main_v434 : Ref sig .tc := ⟨.hbm, 609, rfl⟩
abbrev main_v435 : Ref sig .tc := ⟨.hbm, 610, rfl⟩
abbrev main_v436 : Ref sig .tc := ⟨.hbm, 611, rfl⟩
abbrev main_v437 : Ref sig .tc := ⟨.hbm, 612, rfl⟩
abbrev main_v438 : Ref sig .tc := ⟨.hbm, 613, rfl⟩
abbrev main_v439 : Ref sig .tc := ⟨.hbm, 614, rfl⟩
abbrev main_v440 : Ref sig .tc := ⟨.hbm, 615, rfl⟩
abbrev main_v441 : Ref sig .tc := ⟨.hbm, 616, rfl⟩
abbrev main_v442 : Ref sig .tc := ⟨.hbm, 617, rfl⟩
abbrev main_v443 : Ref sig .tc := ⟨.hbm, 618, rfl⟩
abbrev main_c_102 : Ref sig .tc := ⟨.hbm, 619, rfl⟩
abbrev main_v444 : Ref sig .tc := ⟨.hbm, 620, rfl⟩
abbrev main_v445 : Ref sig .tc := ⟨.hbm, 621, rfl⟩
abbrev main_c_103 : Ref sig .tc := ⟨.hbm, 622, rfl⟩
abbrev main_v446 : Ref sig .tc := ⟨.hbm, 623, rfl⟩
abbrev main_v447 : Ref sig .tc := ⟨.hbm, 624, rfl⟩
abbrev main_v448 : Ref sig .tc := ⟨.hbm, 625, rfl⟩
abbrev main_v449 : Ref sig .tc := ⟨.hbm, 626, rfl⟩
abbrev main_v450 : Ref sig .tc := ⟨.hbm, 627, rfl⟩
abbrev main_v451 : Ref sig .tc := ⟨.hbm, 628, rfl⟩
abbrev main_c_104 : Ref sig .tc := ⟨.hbm, 629, rfl⟩
abbrev main_v452 : Ref sig .tc := ⟨.hbm, 630, rfl⟩
abbrev main_v453 : Ref sig .tc := ⟨.hbm, 631, rfl⟩
abbrev main_c_105 : Ref sig .tc := ⟨.hbm, 632, rfl⟩
abbrev main_v454 : Ref sig .tc := ⟨.hbm, 633, rfl⟩
abbrev main_v455 : Ref sig .tc := ⟨.hbm, 634, rfl⟩
abbrev main_v456 : Ref sig .tc := ⟨.hbm, 635, rfl⟩
abbrev main_v457 : Ref sig .tc := ⟨.hbm, 636, rfl⟩
abbrev main_v458 : Ref sig .tc := ⟨.hbm, 637, rfl⟩
abbrev main_v459 : Ref sig .tc := ⟨.hbm, 638, rfl⟩
abbrev main_v460 : Ref sig .tc := ⟨.hbm, 639, rfl⟩
abbrev main_cst_106 : Ref sig .tc := ⟨.hbm, 640, rfl⟩
abbrev main_call19_v0 : Ref sig .tc := ⟨.hbm, 641, rfl⟩
abbrev main_call19_v1 : Ref sig .tc := ⟨.hbm, 642, rfl⟩
abbrev main_call19_v2 : Ref sig .tc := ⟨.hbm, 643, rfl⟩
abbrev main_v461 : Ref sig .tc := ⟨.hbm, 644, rfl⟩
abbrev main_v462 : Ref sig .tc := ⟨.hbm, 645, rfl⟩
abbrev main_v463 : Ref sig .tc := ⟨.hbm, 646, rfl⟩
abbrev main_v464 : Ref sig .tc := ⟨.hbm, 647, rfl⟩
abbrev main_v465 : Ref sig .tc := ⟨.hbm, 648, rfl⟩
abbrev main_v466 : Ref sig .tc := ⟨.hbm, 649, rfl⟩
abbrev main_v467 : Ref sig .tc := ⟨.hbm, 650, rfl⟩
abbrev main_v468 : Ref sig .tc := ⟨.hbm, 651, rfl⟩
abbrev main_v469 : Ref sig .tc := ⟨.hbm, 652, rfl⟩
abbrev main_cst_107 : Ref sig .tc := ⟨.hbm, 653, rfl⟩
abbrev main_call20_v0 : Ref sig .tc := ⟨.hbm, 654, rfl⟩
abbrev main_call20_v1 : Ref sig .tc := ⟨.hbm, 655, rfl⟩
abbrev main_call20_v2 : Ref sig .tc := ⟨.hbm, 656, rfl⟩
abbrev main_call20_v3 : Ref sig .tc := ⟨.hbm, 657, rfl⟩
abbrev main_v470 : Ref sig .tc := ⟨.hbm, 658, rfl⟩
abbrev main_cst_108 : Ref sig .tc := ⟨.hbm, 659, rfl⟩
abbrev main_v471 : Ref sig .tc := ⟨.hbm, 660, rfl⟩
abbrev main_cst_109 : Ref sig .tc := ⟨.hbm, 661, rfl⟩
abbrev main_v472 : Ref sig .tc := ⟨.hbm, 662, rfl⟩
abbrev main_v473 : Ref sig .tc := ⟨.hbm, 663, rfl⟩
abbrev main_v474 : Ref sig .tc := ⟨.hbm, 664, rfl⟩
abbrev main_v475 : Ref sig .tc := ⟨.hbm, 665, rfl⟩
abbrev main_cst_110 : Ref sig .tc := ⟨.hbm, 666, rfl⟩
abbrev main_v476 : Ref sig .tc := ⟨.hbm, 667, rfl⟩
abbrev main_v477 : Ref sig .tc := ⟨.hbm, 668, rfl⟩
abbrev main_v478 : Ref sig .tc := ⟨.hbm, 669, rfl⟩
abbrev main_v479 : Ref sig .tc := ⟨.hbm, 670, rfl⟩
abbrev main_v480 : Ref sig .tc := ⟨.hbm, 671, rfl⟩
abbrev main_v481 : Ref sig .tc := ⟨.hbm, 672, rfl⟩
abbrev main_v482 : Ref sig .tc := ⟨.hbm, 673, rfl⟩
abbrev main_v483 : Ref sig .tc := ⟨.hbm, 674, rfl⟩
abbrev main_v484 : Ref sig .tc := ⟨.hbm, 675, rfl⟩
abbrev main_cst_111 : Ref sig .tc := ⟨.hbm, 676, rfl⟩
abbrev main_v485 : Ref sig .tc := ⟨.hbm, 677, rfl⟩
abbrev main_c_112 : Ref sig .tc := ⟨.hbm, 678, rfl⟩
abbrev main_v486 : Ref sig .tc := ⟨.hbm, 679, rfl⟩
abbrev main_v487 : Ref sig .tc := ⟨.hbm, 680, rfl⟩
abbrev main_c_113 : Ref sig .tc := ⟨.hbm, 681, rfl⟩
abbrev main_v488 : Ref sig .tc := ⟨.hbm, 682, rfl⟩
abbrev main_v489 : Ref sig .tc := ⟨.hbm, 683, rfl⟩
abbrev main_v490 : Ref sig .tc := ⟨.hbm, 684, rfl⟩
abbrev main_v491 : Ref sig .tc := ⟨.hbm, 685, rfl⟩
abbrev main_v492 : Ref sig .tc := ⟨.hbm, 686, rfl⟩
abbrev main_cst_114 : Ref sig .tc := ⟨.hbm, 687, rfl⟩
abbrev main_v493 : Ref sig .tc := ⟨.hbm, 688, rfl⟩
abbrev main_v494 : Ref sig .tc := ⟨.hbm, 689, rfl⟩
abbrev main_cst_115 : Ref sig .tc := ⟨.hbm, 690, rfl⟩
abbrev main_v495 : Ref sig .tc := ⟨.hbm, 691, rfl⟩
abbrev main_v496 : Ref sig .tc := ⟨.hbm, 692, rfl⟩
abbrev main_c_116 : Ref sig .tc := ⟨.hbm, 693, rfl⟩
abbrev main_v497 : Ref sig .tc := ⟨.hbm, 694, rfl⟩
abbrev main_v498 : Ref sig .tc := ⟨.hbm, 695, rfl⟩
abbrev main_c_117 : Ref sig .tc := ⟨.hbm, 696, rfl⟩
abbrev main_v499 : Ref sig .tc := ⟨.hbm, 697, rfl⟩
abbrev main_v500 : Ref sig .tc := ⟨.hbm, 698, rfl⟩
abbrev main_v501 : Ref sig .tc := ⟨.hbm, 699, rfl⟩
abbrev main_v502 : Ref sig .tc := ⟨.hbm, 700, rfl⟩
abbrev main_v503 : Ref sig .tc := ⟨.hbm, 701, rfl⟩
abbrev main_c_118 : Ref sig .tc := ⟨.hbm, 702, rfl⟩
abbrev main_v504 : Ref sig .tc := ⟨.hbm, 703, rfl⟩
abbrev main_v505 : Ref sig .tc := ⟨.hbm, 704, rfl⟩
abbrev main_c_119 : Ref sig .tc := ⟨.hbm, 705, rfl⟩
abbrev main_v506 : Ref sig .tc := ⟨.hbm, 706, rfl⟩
abbrev main_v507 : Ref sig .tc := ⟨.hbm, 707, rfl⟩
abbrev main_v508 : Ref sig .tc := ⟨.hbm, 708, rfl⟩
abbrev main_v509 : Ref sig .tc := ⟨.hbm, 709, rfl⟩
abbrev main_v510 : Ref sig .tc := ⟨.hbm, 710, rfl⟩
abbrev main_v511 : Ref sig .tc := ⟨.hbm, 711, rfl⟩
abbrev main_v512 : Ref sig .tc := ⟨.hbm, 712, rfl⟩
abbrev main_cst_120 : Ref sig .tc := ⟨.hbm, 713, rfl⟩
abbrev main_v513 : Ref sig .tc := ⟨.hbm, 714, rfl⟩
abbrev main_v514 : Ref sig .tc := ⟨.hbm, 715, rfl⟩
abbrev main_c_121 : Ref sig .tc := ⟨.hbm, 716, rfl⟩
abbrev main_v515 : Ref sig .tc := ⟨.hbm, 717, rfl⟩
abbrev main_v516 : Ref sig .tc := ⟨.hbm, 718, rfl⟩
abbrev main_c_122 : Ref sig .tc := ⟨.hbm, 719, rfl⟩
abbrev main_v517 : Ref sig .tc := ⟨.hbm, 720, rfl⟩
abbrev main_v518 : Ref sig .tc := ⟨.hbm, 721, rfl⟩
abbrev main_v519 : Ref sig .tc := ⟨.hbm, 722, rfl⟩
abbrev main_v520 : Ref sig .tc := ⟨.hbm, 723, rfl⟩
abbrev main_v521 : Ref sig .tc := ⟨.hbm, 724, rfl⟩
abbrev main_v522 : Ref sig .tc := ⟨.hbm, 725, rfl⟩
abbrev main_v523 : Ref sig .tc := ⟨.hbm, 726, rfl⟩
abbrev main_c_123 : Ref sig .tc := ⟨.hbm, 727, rfl⟩
abbrev main_v524 : Ref sig .tc := ⟨.hbm, 728, rfl⟩
abbrev main_v525 : Ref sig .tc := ⟨.hbm, 729, rfl⟩
abbrev main_c_124 : Ref sig .tc := ⟨.hbm, 730, rfl⟩
abbrev main_v526 : Ref sig .tc := ⟨.hbm, 731, rfl⟩
abbrev main_v527 : Ref sig .tc := ⟨.hbm, 732, rfl⟩
abbrev main_v528 : Ref sig .tc := ⟨.hbm, 733, rfl⟩
abbrev main_v529 : Ref sig .tc := ⟨.hbm, 734, rfl⟩
abbrev main_v530 : Ref sig .tc := ⟨.hbm, 735, rfl⟩
abbrev main_v531 : Ref sig .tc := ⟨.hbm, 736, rfl⟩
abbrev main_v532 : Ref sig .tc := ⟨.hbm, 737, rfl⟩
abbrev main_v533 : Ref sig .tc := ⟨.hbm, 738, rfl⟩
abbrev main_v534 : Ref sig .tc := ⟨.hbm, 739, rfl⟩
abbrev main_v535 : Ref sig .tc := ⟨.hbm, 740, rfl⟩
abbrev main_v536 : Ref sig .tc := ⟨.hbm, 741, rfl⟩
abbrev main_v537 : Ref sig .tc := ⟨.hbm, 742, rfl⟩
abbrev main_v538 : Ref sig .tc := ⟨.hbm, 743, rfl⟩
abbrev main_call21_cst : Ref sig .tc := ⟨.hbm, 744, rfl⟩
abbrev main_call21_v0 : Ref sig .tc := ⟨.hbm, 745, rfl⟩
abbrev main_v539 : Ref sig .tc := ⟨.hbm, 746, rfl⟩
abbrev main_v540 : Ref sig .tc := ⟨.hbm, 747, rfl⟩
abbrev main_call22_v0 : Ref sig .tc := ⟨.hbm, 748, rfl⟩
abbrev main_call22_cst : Ref sig .tc := ⟨.hbm, 749, rfl⟩
abbrev main_call22_v1 : Ref sig .tc := ⟨.hbm, 750, rfl⟩
abbrev main_v541 : Ref sig .tc := ⟨.hbm, 751, rfl⟩
abbrev main_v542 : Ref sig .tc := ⟨.hbm, 752, rfl⟩
abbrev main_v543 : Ref sig .tc := ⟨.hbm, 753, rfl⟩
abbrev main_v544 : Ref sig .tc := ⟨.hbm, 754, rfl⟩
abbrev main_cst_125 : Ref sig .tc := ⟨.hbm, 755, rfl⟩
abbrev main_call23_v0 : Ref sig .tc := ⟨.hbm, 756, rfl⟩
abbrev main_call23_v1 : Ref sig .tc := ⟨.hbm, 757, rfl⟩
abbrev main_v545 : Ref sig .tc := ⟨.hbm, 758, rfl⟩
abbrev main_v546 : Ref sig .tc := ⟨.hbm, 759, rfl⟩
abbrev main_call24_v0 : Ref sig .tc := ⟨.hbm, 760, rfl⟩
abbrev main_call24_v1_0 : Ref sig .tc := ⟨.hbm, 761, rfl⟩
abbrev main_call24_v1_1 : Ref sig .tc := ⟨.hbm, 762, rfl⟩
abbrev main_v547 : Ref sig .tc := ⟨.hbm, 763, rfl⟩
abbrev main_c_126 : Ref sig .tc := ⟨.hbm, 764, rfl⟩
abbrev main_v548 : Ref sig .tc := ⟨.hbm, 765, rfl⟩
abbrev main_c_127 : Ref sig .tc := ⟨.hbm, 766, rfl⟩
abbrev main_v549 : Ref sig .tc := ⟨.hbm, 767, rfl⟩
abbrev main_v550 : Ref sig .tc := ⟨.hbm, 768, rfl⟩
abbrev main_v551 : Ref sig .tc := ⟨.hbm, 769, rfl⟩
abbrev main_call25_call0_c : Ref sig .tc := ⟨.hbm, 770, rfl⟩
abbrev main_call25_call0_v0 : Ref sig .tc := ⟨.hbm, 771, rfl⟩
abbrev main_v552 : Ref sig .tc := ⟨.hbm, 772, rfl⟩
abbrev main_v553 : Ref sig .tc := ⟨.hbm, 773, rfl⟩
abbrev main_v554 : Ref sig .tc := ⟨.hbm, 774, rfl⟩
abbrev main_c_128 : Ref sig .tc := ⟨.hbm, 775, rfl⟩
abbrev main_v555 : Ref sig .tc := ⟨.hbm, 776, rfl⟩
abbrev main_v556 : Ref sig .tc := ⟨.hbm, 777, rfl⟩
abbrev main_c_129 : Ref sig .tc := ⟨.hbm, 778, rfl⟩
abbrev main_v557 : Ref sig .tc := ⟨.hbm, 779, rfl⟩
abbrev main_v558 : Ref sig .tc := ⟨.hbm, 780, rfl⟩
abbrev main_v559 : Ref sig .tc := ⟨.hbm, 781, rfl⟩
abbrev main_v560 : Ref sig .tc := ⟨.hbm, 782, rfl⟩
abbrev main_v561 : Ref sig .tc := ⟨.hbm, 783, rfl⟩
abbrev main_c_130 : Ref sig .tc := ⟨.hbm, 784, rfl⟩
abbrev main_v562 : Ref sig .tc := ⟨.hbm, 785, rfl⟩
abbrev main_v563 : Ref sig .tc := ⟨.hbm, 786, rfl⟩
abbrev main_c_131 : Ref sig .tc := ⟨.hbm, 787, rfl⟩
abbrev main_v564 : Ref sig .tc := ⟨.hbm, 788, rfl⟩
abbrev main_v565 : Ref sig .tc := ⟨.hbm, 789, rfl⟩
abbrev main_v566 : Ref sig .tc := ⟨.hbm, 790, rfl⟩
abbrev main_v567 : Ref sig .tc := ⟨.hbm, 791, rfl⟩
abbrev main_v568 : Ref sig .tc := ⟨.hbm, 792, rfl⟩
abbrev main_v569 : Ref sig .tc := ⟨.hbm, 793, rfl⟩
abbrev main_c_132 : Ref sig .tc := ⟨.hbm, 794, rfl⟩
abbrev main_v570 : Ref sig .tc := ⟨.hbm, 795, rfl⟩
abbrev main_c_133 : Ref sig .tc := ⟨.hbm, 796, rfl⟩
abbrev main_v571 : Ref sig .tc := ⟨.hbm, 797, rfl⟩
abbrev main_v572 : Ref sig .tc := ⟨.hbm, 798, rfl⟩
abbrev main_c_134 : Ref sig .tc := ⟨.hbm, 799, rfl⟩
abbrev main_v573 : Ref sig .tc := ⟨.hbm, 800, rfl⟩
abbrev main_v574 : Ref sig .tc := ⟨.hbm, 801, rfl⟩
abbrev main_v575 : Ref sig .tc := ⟨.hbm, 802, rfl⟩
abbrev main_v576 : Ref sig .tc := ⟨.hbm, 803, rfl⟩
abbrev main_v577 : Ref sig .tc := ⟨.hbm, 804, rfl⟩
abbrev main_v578 : Ref sig .tc := ⟨.hbm, 805, rfl⟩
abbrev main_c_135 : Ref sig .tc := ⟨.hbm, 806, rfl⟩
abbrev main_v579 : Ref sig .tc := ⟨.hbm, 807, rfl⟩
abbrev main_v580 : Ref sig .tc := ⟨.hbm, 808, rfl⟩
abbrev main_v581 : Ref sig .tc := ⟨.hbm, 809, rfl⟩
abbrev main_v582 : Ref sig .tc := ⟨.hbm, 810, rfl⟩
abbrev main_cst_136 : Ref sig .tc := ⟨.hbm, 811, rfl⟩
abbrev main_v583 : Ref sig .tc := ⟨.hbm, 812, rfl⟩
abbrev main_v584 : Ref sig .tc := ⟨.hbm, 813, rfl⟩
abbrev main_v585 : Ref sig .tc := ⟨.hbm, 814, rfl⟩
abbrev main_v586 : Ref sig .tc := ⟨.hbm, 815, rfl⟩
abbrev main_c_137 : Ref sig .tc := ⟨.hbm, 816, rfl⟩
abbrev main_v587 : Ref sig .tc := ⟨.hbm, 817, rfl⟩
abbrev main_v588 : Ref sig .tc := ⟨.hbm, 818, rfl⟩
abbrev main_c_138 : Ref sig .tc := ⟨.hbm, 819, rfl⟩
abbrev main_v589 : Ref sig .tc := ⟨.hbm, 820, rfl⟩
abbrev main_v590 : Ref sig .tc := ⟨.hbm, 821, rfl⟩
abbrev main_v591 : Ref sig .tc := ⟨.hbm, 822, rfl⟩
abbrev main_v592 : Ref sig .tc := ⟨.hbm, 823, rfl⟩
abbrev main_v593 : Ref sig .tc := ⟨.hbm, 824, rfl⟩
abbrev main_v594 : Ref sig .tc := ⟨.hbm, 825, rfl⟩
abbrev main_v595 : Ref sig .tc := ⟨.hbm, 826, rfl⟩
abbrev main_v596 : Ref sig .tc := ⟨.hbm, 827, rfl⟩
abbrev main_v597 : Ref sig .tc := ⟨.hbm, 828, rfl⟩
abbrev main_v598 : Ref sig .tc := ⟨.hbm, 829, rfl⟩
abbrev main_v599 : Ref sig .tc := ⟨.hbm, 830, rfl⟩
abbrev main_v600 : Ref sig .tc := ⟨.hbm, 831, rfl⟩
abbrev main_v601 : Ref sig .tc := ⟨.hbm, 832, rfl⟩
abbrev main_v602 : Ref sig .tc := ⟨.hbm, 833, rfl⟩
abbrev main_c_139 : Ref sig .tc := ⟨.hbm, 834, rfl⟩
abbrev main_v603 : Ref sig .tc := ⟨.hbm, 835, rfl⟩
abbrev main_v604 : Ref sig .tc := ⟨.hbm, 836, rfl⟩
abbrev main_c_140 : Ref sig .tc := ⟨.hbm, 837, rfl⟩
abbrev main_v605 : Ref sig .tc := ⟨.hbm, 838, rfl⟩
abbrev main_v606 : Ref sig .tc := ⟨.hbm, 839, rfl⟩
abbrev main_v607 : Ref sig .tc := ⟨.hbm, 840, rfl⟩
abbrev main_v608 : Ref sig .tc := ⟨.hbm, 841, rfl⟩
abbrev main_v609 : Ref sig .tc := ⟨.hbm, 842, rfl⟩
abbrev main_v610 : Ref sig .tc := ⟨.hbm, 843, rfl⟩
abbrev main_c_141 : Ref sig .tc := ⟨.hbm, 844, rfl⟩
abbrev main_v611 : Ref sig .tc := ⟨.hbm, 845, rfl⟩
abbrev main_v612 : Ref sig .tc := ⟨.hbm, 846, rfl⟩
abbrev main_c_142 : Ref sig .tc := ⟨.hbm, 847, rfl⟩
abbrev main_v613 : Ref sig .tc := ⟨.hbm, 848, rfl⟩
abbrev main_v614 : Ref sig .tc := ⟨.hbm, 849, rfl⟩
abbrev main_v615 : Ref sig .tc := ⟨.hbm, 850, rfl⟩
abbrev main_v616 : Ref sig .tc := ⟨.hbm, 851, rfl⟩
abbrev main_v617 : Ref sig .tc := ⟨.hbm, 852, rfl⟩
abbrev main_v618 : Ref sig .tc := ⟨.hbm, 853, rfl⟩
abbrev main_v619 : Ref sig .tc := ⟨.hbm, 854, rfl⟩
abbrev main_cst_143 : Ref sig .tc := ⟨.hbm, 855, rfl⟩
abbrev main_call26_v0 : Ref sig .tc := ⟨.hbm, 856, rfl⟩
abbrev main_call26_v1 : Ref sig .tc := ⟨.hbm, 857, rfl⟩
abbrev main_call26_v2 : Ref sig .tc := ⟨.hbm, 858, rfl⟩
abbrev main_v620 : Ref sig .tc := ⟨.hbm, 859, rfl⟩
abbrev main_v621 : Ref sig .tc := ⟨.hbm, 860, rfl⟩
abbrev main_v622 : Ref sig .tc := ⟨.hbm, 861, rfl⟩
abbrev main_v623 : Ref sig .tc := ⟨.hbm, 862, rfl⟩
abbrev main_v624 : Ref sig .tc := ⟨.hbm, 863, rfl⟩
abbrev main_v625 : Ref sig .tc := ⟨.hbm, 864, rfl⟩
abbrev main_v626 : Ref sig .tc := ⟨.hbm, 865, rfl⟩
abbrev main_v627 : Ref sig .tc := ⟨.hbm, 866, rfl⟩
abbrev main_v628 : Ref sig .tc := ⟨.hbm, 867, rfl⟩
abbrev main_cst_144 : Ref sig .tc := ⟨.hbm, 868, rfl⟩
abbrev main_call27_v0 : Ref sig .tc := ⟨.hbm, 869, rfl⟩
abbrev main_call27_v1 : Ref sig .tc := ⟨.hbm, 870, rfl⟩
abbrev main_call27_v2 : Ref sig .tc := ⟨.hbm, 871, rfl⟩
abbrev main_call27_v3 : Ref sig .tc := ⟨.hbm, 872, rfl⟩
abbrev main_v629 : Ref sig .tc := ⟨.hbm, 873, rfl⟩
abbrev main_cst_145 : Ref sig .tc := ⟨.hbm, 874, rfl⟩
abbrev main_v630 : Ref sig .tc := ⟨.hbm, 875, rfl⟩
abbrev main_cst_146 : Ref sig .tc := ⟨.hbm, 876, rfl⟩
abbrev main_v631 : Ref sig .tc := ⟨.hbm, 877, rfl⟩
abbrev main_v632 : Ref sig .tc := ⟨.hbm, 878, rfl⟩
abbrev main_v633 : Ref sig .tc := ⟨.hbm, 879, rfl⟩
abbrev main_v634 : Ref sig .tc := ⟨.hbm, 880, rfl⟩
abbrev main_cst_147 : Ref sig .tc := ⟨.hbm, 881, rfl⟩
abbrev main_v635 : Ref sig .tc := ⟨.hbm, 882, rfl⟩
abbrev main_v636 : Ref sig .tc := ⟨.hbm, 883, rfl⟩
abbrev main_v637 : Ref sig .tc := ⟨.hbm, 884, rfl⟩
abbrev main_v638 : Ref sig .tc := ⟨.hbm, 885, rfl⟩
abbrev main_v639 : Ref sig .tc := ⟨.hbm, 886, rfl⟩
abbrev main_v640 : Ref sig .tc := ⟨.hbm, 887, rfl⟩
abbrev main_v641 : Ref sig .tc := ⟨.hbm, 888, rfl⟩
abbrev main_v642 : Ref sig .tc := ⟨.hbm, 889, rfl⟩
abbrev main_v643 : Ref sig .tc := ⟨.hbm, 890, rfl⟩
abbrev main_v644 : Ref sig .tc := ⟨.hbm, 891, rfl⟩
abbrev main_v645 : Ref sig .tc := ⟨.hbm, 892, rfl⟩
abbrev main_v646 : Ref sig .tc := ⟨.hbm, 893, rfl⟩
abbrev main_v647 : Ref sig .tc := ⟨.hbm, 894, rfl⟩
abbrev main_v648 : Ref sig .tc := ⟨.hbm, 895, rfl⟩
abbrev main_call28_cst : Ref sig .tc := ⟨.hbm, 896, rfl⟩
abbrev main_call28_v0 : Ref sig .tc := ⟨.hbm, 897, rfl⟩
abbrev main_v649 : Ref sig .tc := ⟨.hbm, 898, rfl⟩
abbrev main_v650 : Ref sig .tc := ⟨.hbm, 899, rfl⟩
abbrev main_v651 : Ref sig .tc := ⟨.hbm, 900, rfl⟩
abbrev main_v652 : Ref sig .tc := ⟨.hbm, 901, rfl⟩
abbrev main_v653 : Ref sig .tc := ⟨.hbm, 902, rfl⟩
abbrev main_call29_cst : Ref sig .tc := ⟨.hbm, 903, rfl⟩
abbrev main_call29_v0 : Ref sig .tc := ⟨.hbm, 904, rfl⟩
abbrev main_v654 : Ref sig .tc := ⟨.hbm, 905, rfl⟩
abbrev main_v655 : Ref sig .tc := ⟨.hbm, 906, rfl⟩
abbrev main_v656 : Ref sig .tc := ⟨.hbm, 907, rfl⟩
abbrev main_v657 : Ref sig .tc := ⟨.hbm, 908, rfl⟩
abbrev main_v658 : Ref sig .tc := ⟨.hbm, 909, rfl⟩
abbrev main_call30_cst : Ref sig .tc := ⟨.hbm, 910, rfl⟩
abbrev main_call30_v0 : Ref sig .tc := ⟨.hbm, 911, rfl⟩
abbrev main_call30_cst_0 : Ref sig .tc := ⟨.hbm, 912, rfl⟩
abbrev main_call30_v1 : Ref sig .tc := ⟨.hbm, 913, rfl⟩
abbrev main_call30_v2 : Ref sig .tc := ⟨.hbm, 914, rfl⟩
abbrev main_call30_v3 : Ref sig .tc := ⟨.hbm, 915, rfl⟩
abbrev main_call30_v4 : Ref sig .tc := ⟨.hbm, 916, rfl⟩
abbrev main_call30_v5 : Ref sig .tc := ⟨.hbm, 917, rfl⟩
abbrev main_call30_v6 : Ref sig .tc := ⟨.hbm, 918, rfl⟩
abbrev main_call30_cst_1 : Ref sig .tc := ⟨.hbm, 919, rfl⟩
abbrev main_call30_v7 : Ref sig .tc := ⟨.hbm, 920, rfl⟩
abbrev main_call30_v8 : Ref sig .tc := ⟨.hbm, 921, rfl⟩
abbrev main_call30_v9 : Ref sig .tc := ⟨.hbm, 922, rfl⟩
abbrev main_call30_v10 : Ref sig .tc := ⟨.hbm, 923, rfl⟩
abbrev main_v659 : Ref sig .tc := ⟨.hbm, 924, rfl⟩

abbrev nD : Nat := 1
abbrev τ : Topo := Topo.v7x

variable {F : FTy → Type} [FloatOps F]
-- ==== Proof.Net.lean ====
/-
  The network, stage by stage, as functions of arrays: one graph convolution, the node scores, the choice of the nodes
  that stay, the gate, the edges that stay, the per-graph readout and the classifier head. The reference computes
  exactly these (`Reference.lean`); the kernel is shown to compute them too (`Kernel*.lean`).
-/
module

public import proofs.«01_k».proof.Proof.Gen.ReferenceIdeal.Run

@[expose] public section

set_option maxRecDepth 16384

noncomputable section

namespace Cert.Net

open Idealize.ShloMosaic Idealize.ShloMosaic.TcCoe
open Cert.ReferenceIdeal Cert.ReferenceIdeal.Gen

variable {F : FTy → Type} [FloatOps F]

/-- An index into `n` nodes per edge, a negative one counted from the end, as a column. -/
def edgeIx (n : BitVec 32) (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 n))) i)

/-- An index into `n` items per node, a negative one counted from the end, as a column. -/
def nodeIx (n : BitVec 32) (i : IVec S10000 32) : IVec S10000x1 32 :=
  broadcastInDim S10000x1 ![0] bcast_S10000_S10000x1_0
    (select (cmpi .slt i (broadcastInDim S10000 ![] bcast_S_S10000 (constantI S_ 32 0#32)))
      (addi i (broadcastInDim S10000 ![] bcast_S_S10000 (constantI S_ 32 n))) i)

/-- The ends the edges leave from: the first row of the edge list. -/
def srcOf (ei : IVec S2x320000 32) : IVec S320000 32 :=
  shapeCast _ (extractStridedSlice S1x320000 ![0, 0] ei slices_S2x320000_S1x320000_0_0) shapeCasts_S1x320000_S320000

/-- The ends the edges arrive at: the second row of the edge list. -/
def dstOf (ei : IVec S2x320000 32) : IVec S320000 32 :=
  shapeCast _ (extractStridedSlice S1x320000 ![1, 0] ei slices_S2x320000_S1x320000_1_0) shapeCasts_S1x320000_S320000

/-- Every node is in the graph at first. -/
def allNodes : IVec S10000 1 := broadcastInDim S10000 ![] bcast_S_S10000 (constantI S_ 1 1#1)

/-- Every edge is in the graph at first. -/
def allEdges : IVec S320000 1 := broadcastInDim S320000 ![] bcast_S_S320000 (constantI S_ 1 1#1)

/-- The node features times the layer's weights. -/
def project (x : FVec F S10000x128 .f32) (W : FVec F S128x128 .f32) : FVec F S10000x128 .f32 :=
  Host.dotGeneral dot_S10000x128_S128x128_S10000x128_1_0_0_1_n_n none x W

/-- One over the square root of (live incoming edges + 1), per node. -/
def invSqrtDeg (dst : IVec S320000 32) (live : IVec S320000 1) : FVec F S10000 .f32 :=
  Host.powf
    (addf (Host.scatterAdd scatter_S10000_S320000x1_S320000_n_0_0_1
        (broadcastInDim S10000 ![] bcast_S_S10000 (constant S_ .f32 0x00000000#32)) (edgeIx 10000#32 dst)
        (uitofp .f32 live))
      (broadcastInDim S10000 ![] bcast_S_S10000 (constant S_ .f32 0x3F800000#32)))
    (broadcastInDim S10000 ![] bcast_S_S10000 (constant S_ .f32 0xBF000000#32))

/-- The sum over the live incoming edges of the neighbour's projected features, normalised by both degrees. -/
def aggregate (src dst : IVec S320000 32) (live : IVec S320000 1) (xw : FVec F S10000x128 .f32) : FVec F S10000x128 .f32 :=
  Host.scatterAdd scatter_S10000x128_S320000x1_S320000x128_1_0_0_1
    (broadcastInDim S10000x128 ![] bcast_S_S10000x128 (constant S_ .f32 0x00000000#32)) (edgeIx 10000#32 dst)
    (mulf
      (broadcastInDim S320000x128 ![0, 1] bcast_S320000x1_S320000x128_0_1
        (broadcastInDim S320000x1 ![0] bcast_S320000_S320000x1_0
          (mulf
            (mulf
              (Host.gather gather_S10000_S320000x1_S320000_n_0_n_n_0_1_1 (invSqrtDeg dst live) (edgeIx 10000#32 src))
              (Host.gather gather_S10000_S320000x1_S320000_n_0_n_n_0_1_1 (invSqrtDeg dst live) (edgeIx 10000#32 dst)))
            (uitofp .f32 live))))
      (Host.gather gather_S10000x128_S320000x1_S320000x128_1_0_n_n_0_1_1128 xw (edgeIx 10000#32 src)))

/-- One over (live incoming edges + 1) per node, as a column: the weight of the node's own features. -/
def selfWeight (dst : IVec S320000 32) (live : IVec S320000 1) : FVec F S10000x1 .f32 :=
  broadcastInDim S10000x1 ![0] bcast_S10000_S10000x1_0 (mulf (invSqrtDeg dst live) (invSqrtDeg dst live))

/-- The bias as a row. -/
def biasRow (b : FVec F S128 .f32) : FVec F S1x128 .f32 := broadcastInDim S1x128 ![1] bcast_S128_S1x128_1 b

/-- The aggregated neighbours, the node's own weighted features and the bias, negative parts cut off. -/
def combine (agg : FVec F S10000x128 .f32) (d2 : FVec F S10000x1 .f32) (xw : FVec F S10000x128 .f32)
    (b : FVec F S1x128 .f32) : FVec F S10000x128 .f32 :=
  maximumf
    (addf (addf agg (mulf (broadcastInDim S10000x128 ![0, 1] bcast_S10000x1_S10000x128_0_1 d2) xw))
      (broadcastInDim S10000x128 ![0, 1] bcast_S1x128_S10000x128_0_1 b))
    (broadcastInDim S10000x128 ![] bcast_S_S10000x128 (constant S_ .f32 0x00000000#32))

/-- One graph convolution. -/
def convolve (src dst : IVec S320000 32) (live : IVec S320000 1) (x : FVec F S10000x128 .f32) (W : FVec F S128x128 .f32)
    (b : FVec F S128 .f32) : FVec F S10000x128 .f32 :=
  combine (aggregate src dst live (project x W)) (selfWeight dst live) (project x W) (biasRow b)

/-- The square of the score vector's norm. -/
def sqNorm (p : FVec F S128 .f32) : FVec F S_ .f32 :=
  Host.reduceAdd (mulf p p) (constant S_ .f32 0x00000000#32) reducesTo_S128_S_d0 h_S_

/-- A node's score: the hyperbolic tangent of its features' product with the score vector over that vector's norm. -/
def score (x : FVec F S10000x128 .f32) (p : FVec F S128 .f32) : FVec F S10000 .f32 :=
  Host.tanh (Host.divf (Host.dotGeneral dot_S10000x128_S128_S10000_1_0_0_n_n_n none x p)
    (broadcastInDim S10000 ![] bcast_S_S10000 (Host.sqrt (sqNorm p))))

/-- The nodes in order of graph, then of falling score, the nodes that are out of the graph last. -/
def rankOrder (batch : IVec S10000 32) (alive : IVec S10000 1) (s : FVec F S10000 .f32) : IVec S10000 32 :=
  (Host.sort3 S10000 0 comparator_i32_f32_i32_d0 batch
    (Host.negf (select alive s (broadcastInDim S10000 ![] bcast_S_S10000 (id (constant S_ .f32 0xFF800000#32)))))
    (iotaInDim S10000 32 0)).2.2

/-- How many of the nodes each graph has. -/
def graphSizes (batch : IVec S10000 32) : IVec S16 32 :=
  Host.scatter scatter_S16_S10000x1_S10000_n_0_0_1 IntOp.addi
    (broadcastInDim S16 ![] bcast_S_S16 (constantI S_ 32 0#32))
    (broadcastInDim S10000x1 ![0] bcast_S10000_S10000x1_0 batch)
    (broadcastInDim S10000 ![] bcast_S_S10000 (constantI S_ 32 1#32))

/-- How many nodes each graph keeps: four fifths of those alive, rounded up. -/
def quota (batch : IVec S10000 32) (alive : IVec S10000 1) : IVec S16 32 :=
  fptosi 32 (Host.ceil (mulf (broadcastInDim S16 ![] bcast_S_S16 (constant S_ .f32 0x3F4CCCCD#32))
    (sitofp .f32 (Host.scatter scatter_S16_S10000x1_S10000_n_0_0_1 IntOp.addi
      (broadcastInDim S16 ![] bcast_S_S16 (constantI S_ 32 0#32))
      (broadcastInDim S10000x1 ![0] bcast_S10000_S10000x1_0 batch)
      (extui 32 alive natLt_1_32)))) : FVec F S16 .f32)

/-- How many nodes the graphs up to each one have together. -/
def graphEnds (batch : IVec S10000 32) : IVec S16 32 :=
  Host.reduceWindow IntOp.addi ![16] ![1] ![15] ![0] (graphSizes batch)
    (broadcastInDim S_ ![] bcast_S_S_ (constantI S_ 32 0#32)) reduceWindows_S16_S16_w16s1p15_0 h_S_

/-- Each node's place within its graph, given the order. -/
def rankOf (batch order : IVec S10000 32) : IVec S10000 32 :=
  Host.scatter scatter_S10000_S10000x1_S10000_n_0_0_1 (fun _ b => b)
    (broadcastInDim S10000 ![] bcast_S_S10000 (constantI S_ 32 0#32)) (nodeIx 10000#32 order)
    (subi (iotaInDim S10000 32 0)
      (Host.gather gather_S16_S10000x1_S10000_n_0_n_n_0_1_1
        (subi
          (graphEnds batch)
          (graphSizes batch))
        (nodeIx 16#32
          (Host.gather gather_S10000_S10000x1_S10000_n_0_n_n_0_1_1 batch (nodeIx 10000#32 order)))))

/-- The nodes that stay: the alive ones whose place is below their graph's quota. -/
def keep (batch : IVec S10000 32) (alive : IVec S10000 1) (s : FVec F S10000 .f32) : IVec S10000 1 :=
  andi
    (cmpi .slt (rankOf batch (rankOrder batch alive s))
      (Host.gather gather_S16_S10000x1_S10000_n_0_n_n_0_1_1 (quota (F := F) batch alive) (nodeIx 16#32 batch)))
    alive

/-- The edges that stay: the live ones with both ends staying. -/
def keepEdges (src dst : IVec S320000 32) (live : IVec S320000 1) (alive : IVec S10000 1) : IVec S320000 1 :=
  andi
    (andi live (Host.gather gather_S10000_S320000x1_S320000_n_0_n_n_0_1_1 alive (edgeIx 10000#32 src)))
    (Host.gather gather_S10000_S320000x1_S320000_n_0_n_n_0_1_1 alive (edgeIx 10000#32 dst))

/-- The features times the score, zero at the nodes that go. -/
def gate (x : FVec F S10000x128 .f32) (s : FVec F S10000 .f32) (alive : IVec S10000 1) : FVec F S10000x128 .f32 :=
  mulf
    (mulf x (broadcastInDim S10000x128 ![0, 1] bcast_S10000x1_S10000x128_0_1
      (broadcastInDim S10000x1 ![0] bcast_S10000_S10000x1_0 s)))
    (broadcastInDim S10000x128 ![0, 1] bcast_S10000x1_S10000x128_0_1
      (uitofp .f32 (broadcastInDim S10000x1 ![0] bcast_S10000_S10000x1_0 alive)))

/-- Per graph and feature, the largest over the alive nodes. -/
def maxima (batch : IVec S10000 32) (alive : IVec S10000 1) (x : FVec F S10000x128 .f32) : FVec F S16x128 .f32 :=
  Host.reduce FloatOps.maximumf
    (select
      (broadcastInDim S16x10000x128 ![0, 1, 2] bcast_S16x10000x1_S16x10000x128_0_1_2
        (broadcastInDim S16x10000x1 ![0, 1] bcast_S16x10000_S16x10000x1_0_1
          (cmpi .eq
            (broadcastInDim S16x10000 ![0, 1] bcast_S1x10000_S16x10000_0_1
              (broadcastInDim S1x10000 ![1] bcast_S10000_S1x10000_1 batch))
            (broadcastInDim S16x10000 ![0, 1] bcast_S16x1_S16x10000_0_1
              (broadcastInDim S16x1 ![0] bcast_S16_S16x1_0 (iotaInDim S16 32 0))))))
      (broadcastInDim S16x10000x128 ![0, 1, 2] bcast_S1x10000x128_S16x10000x128_0_1_2
        (broadcastInDim S1x10000x128 ![1, 2] bcast_S10000x128_S1x10000x128_1_2
          (select
            (broadcastInDim S10000x128 ![0, 1] bcast_S10000x1_S10000x128_0_1
              (broadcastInDim S10000x1 ![0] bcast_S10000_S10000x1_0 alive))
            x (broadcastInDim S10000x128 ![] bcast_S_S10000x128 (id (constant S_ .f32 0xFF800000#32))))))
      (broadcastInDim S16x10000x128 ![] bcast_S_S16x10000x128 (id (constant S_ .f32 0xFF800000#32))))
    (constant S_ .f32 0xFF800000#32) reducesTo_S16x10000x128_S16x128_d1 h_S_

/-- Per graph and feature, the sum over the nodes over the number of alive ones. -/
def means (batch : IVec S10000 32) (alive : IVec S10000 1) (x : FVec F S10000x128 .f32) : FVec F S16x128 .f32 :=
  Host.divf
    (Host.scatterAdd scatter_S16x128_S10000x1_S10000x128_1_0_0_1
      (broadcastInDim S16x128 ![] bcast_S_S16x128 (constant S_ .f32 0x00000000#32))
      (broadcastInDim S10000x1 ![0] bcast_S10000_S10000x1_0 batch) x)
    (broadcastInDim S16x128 ![0, 1] bcast_S16x1_S16x128_0_1
      (broadcastInDim S16x1 ![0] bcast_S16_S16x1_0
        (Host.scatterAdd scatter_S16_S10000x1_S10000_n_0_0_1
          (broadcastInDim S16 ![] bcast_S_S16 (constant S_ .f32 0x00000000#32))
          (broadcastInDim S10000x1 ![0] bcast_S10000_S10000x1_0 batch) (uitofp .f32 alive))))

/-- A block's readout: the maxima beside the means. -/
def readout (batch : IVec S10000 32) (alive : IVec S10000 1) (x : FVec F S10000x128 .f32) : FVec F S16x256 .f32 :=
  concatenate S16x256 1 [⟨S16x128, maxima batch alive x⟩, ⟨S16x128, means batch alive x⟩]
    concatenates_S16x128_S16x128_S16x256_d1

/-- The head's three dense layers. -/
def logits (z : FVec F S16x256 .f32) (w1 : FVec F S256x128 .f32) (b1 : FVec F S128 .f32) (w2 : FVec F S128x64 .f32)
    (b2 : FVec F S64 .f32) (w3 : FVec F S64x10 .f32) (b3 : FVec F S10 .f32) : FVec F S16x10 .f32 :=
  addf
    (Host.dotGeneral dot_S16x64_S64x10_S16x10_1_0_0_1_n_n none
      (maximumf
        (addf
          (Host.dotGeneral dot_S16x128_S128x64_S16x64_1_0_0_1_n_n none
            (maximumf
              (addf (Host.dotGeneral dot_S16x256_S256x128_S16x128_1_0_0_1_n_n none z w1)
                (broadcastInDim S16x128 ![0, 1] bcast_S1x128_S16x128_0_1
                  (broadcastInDim S1x128 ![1] bcast_S128_S1x128_1 b1)))
              (broadcastInDim S16x128 ![] bcast_S_S16x128 (constant S_ .f32 0x00000000#32)))
            w2)
          (broadcastInDim S16x64 ![0, 1] bcast_S1x64_S16x64_0_1 (broadcastInDim S1x64 ![1] bcast_S64_S1x64_1 b2)))
        (broadcastInDim S16x64 ![] bcast_S_S16x64 (constant S_ .f32 0x00000000#32)))
      w3)
    (broadcastInDim S16x10 ![0, 1] bcast_S1x10_S16x10_0_1 (broadcastInDim S1x10 ![1] bcast_S10_S1x10_1 b3))

/-- The logits less their row's largest. -/
def shifted (l : FVec F S16x10 .f32) : FVec F S16x10 .f32 :=
  subf l (broadcastInDim S16x10 ![0, 1] bcast_S16x1_S16x10_0_1 (broadcastInDim S16x1 ![0] bcast_S16_S16x1_0
    (maximumf (broadcastInDim S16 ![] bcast_S_S16 (constant S_ .f32 0xFF800000#32))
      (Host.reduce FloatOps.maximumf l (constant S_ .f32 0xFF800000#32) reducesTo_S16x10_S16_d1 h_S_))))

/-- The logarithm of the softmax of each row. -/
def logSoftmax (l : FVec F S16x10 .f32) : FVec F S16x10 .f32 :=
  subf (shifted l) (broadcastInDim S16x10 ![0, 1] bcast_S16x1_S16x10_0_1
    (Host.log (broadcastInDim S16x1 ![0] bcast_S16_S16x1_0
      (Host.reduceAdd (Host.exp (shifted l)) (constant S_ .f32 0x00000000#32) reducesTo_S16x10_S16_d1 h_S_))))

/-- What a block hands on: the features, the nodes alive and the edges live. -/
structure State (F : FTy → Type) where
  x : FVec F S10000x128 .f32
  alive : IVec S10000 1
  live : IVec S320000 1

/-- One block: convolve, score, choose the nodes, gate the features and drop the edges that lost an end. -/
def step (batch : IVec S10000 32) (src dst : IVec S320000 32) (W : FVec F S128x128 .f32) (b p : FVec F S128 .f32)
    (S : State F) : State F where
  x := gate (convolve src dst S.live S.x W b) (score (convolve src dst S.live S.x W b) p)
    (keep batch S.alive (score (convolve src dst S.live S.x W b) p))
  alive := keep batch S.alive (score (convolve src dst S.live S.x W b) p)
  live := keepEdges src dst S.live (keep batch S.alive (score (convolve src dst S.live S.x W b) p))

/-- The whole network: four blocks, the sum of their readouts, the head. -/
def network (x : FVec F S10000x128 .f32) (e : IVec S2x320000 32) (batch : IVec S10000 32)
    (W1 : FVec F S128x128 .f32) (b1 p1 : FVec F S128 .f32) (W2 : FVec F S128x128 .f32) (b2 p2 : FVec F S128 .f32)
    (W3 : FVec F S128x128 .f32) (b3 p3 : FVec F S128 .f32) (W4 : FVec F S128x128 .f32) (b4 p4 : FVec F S128 .f32)
    (u1 : FVec F S256x128 .f32) (c1 : FVec F S128 .f32) (u2 : FVec F S128x64 .f32) (c2 : FVec F S64 .f32)
    (u3 : FVec F S64x10 .f32) (c3 : FVec F S10 .f32) : FVec F S16x10 .f32 :=
  let s0 : State F := ⟨x, allNodes, allEdges⟩
  let s1 := step batch (srcOf e) (dstOf e) W1 b1 p1 s0
  let s2 := step batch (srcOf e) (dstOf e) W2 b2 p2 s1
  let s3 := step batch (srcOf e) (dstOf e) W3 b3 p3 s2
  let s4 := step batch (srcOf e) (dstOf e) W4 b4 p4 s3
  logSoftmax (logits
    (addf (addf (addf (readout batch s1.alive s1.x) (readout batch s2.alive s2.x)) (readout batch s3.alive s3.x))
      (readout batch s4.alive s4.x)) u1 c1 u2 c2 u3 c3)

end Cert.Net

end
-- ==== Proof.Regions.lean ====
/-
  What each fused kernel call leaves in its result arrays, at whatever contents it finds its operands: the projection,
  the combine-and-score step and the head. (The gate-and-readout step is `GateRegions.lean`.)
-/
module

public import proofs.«01_k».proof.Proof.Gen.KernelIdeal.Frame
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

variable {F : FTy → Type} [FloatOps F]

/-- A window of one block starts at its array's origin. -/
theorem hz : (![0, 0] : Fin 2 → Nat) = fun _ => 0 := funext fun a => by fin_cases a <;> rfl

/-- The one block of a window that is a whole array reads that array. -/
theorem blk_whole {s : Shape} {e : EltTy} {cs : CoreSpace} (r : Memref sig .tc .hbm s e) (o a : Bool)
    (st : Memref sig .tc (.core cs) ⟨s.rank, s.size⟩ e) (sm : DmaSem sig) (h1 : r.IsWhole) (h2 : st.IsWhole)
    (t : Fin Pipeline.Grid.none.N) (f : r.view.ty.Contents (Elt F)) :
    ((Pipeline.Window.whole r o a st sm h1 h2).blk t).view.read (Elt F) f = r.view.read (Elt F) f :=
  funext fun x => congrArg (r.view.read (Elt F) f) (funext fun a' =>
    Fin.ext (Pipeline.Window.rect_emb_val_of_index_zero (Pipeline.Window.whole r o a st sm h1 h2) t a' rfl x))

variable (V : (c : Dev nD) → (b : Ref sig .tc) → Buf (Elt F) ((c : Thread nD τ).loc b))

/-- Two 128-wide products agree whether or not the left one was first copied in its own shape. -/
theorem project_copy3 (x : FVec F S10000x128 .f32) (W : FVec F S128x128 .f32) : k3_pay1 x W = k0_pay1 x W := by
  unfold k3_pay1 k0_pay1
  rw [shapeCast_self]
/-- Block 3's projection is the first block's. -/
theorem project_copy6 (x : FVec F S10000x128 .f32) (W : FVec F S128x128 .f32) : k6_pay1 x W = k0_pay1 x W := project_copy3 x W
/-- Block 4's projection is the first block's. -/
theorem project_copy9 (x : FVec F S10000x128 .f32) (W : FVec F S128x128 .f32) : k9_pay1 x W = k0_pay1 x W := project_copy3 x W

/-! ## The projection -/

/-- The blocks that block 1's projecting call reads are its whole input arrays. -/
theorem in0 (c : Dev nD) (t) : iblk0 V c 0 t = V c main_arg0 ∧ iblk0 V c 1 t = V c main_arg3 :=
  ⟨blk_whole _ _ _ _ _ (Memref.isWhole_whole _) (hstage0_0 0) _ _,
    blk_whole _ _ _ _ _ (Memref.isWhole_whole _) (hstage0_1 0) _ _⟩

/-- Block 1: the projected features after the call. -/
theorem region0 (c : Dev nD) : (dat0 V c).arrAt 2 cfg0.N = k0_pay1 (V c main_arg0) (V c main_arg3) := by
  refine (dat0 V c).arrAt_eq_of_after_last 2 ⟨0, by decide⟩ (by decide +kernel) _ fun j => ?_
  obtain ⟨h0, h1⟩ := in0 V c ⟨0, by decide⟩
  rw [after0_2, out0_2, View.canon_unit_zero hz, View.ld_unit_zero hz, View.ld_unit_zero hz, h0, h1]
  rfl

/-- The blocks that block 2's projecting call reads are its whole input arrays. -/
theorem in3 (c : Dev nD) (t) : iblk3 V c 0 t = V c main_v115_0 ∧ iblk3 V c 1 t = V c main_arg6 :=
  ⟨blk_whole _ _ _ _ _ (Memref.isWhole_whole _) (hstage3_0 0) _ _,
    blk_whole _ _ _ _ _ (Memref.isWhole_whole _) (hstage3_1 0) _ _⟩

/-- Block 2: the projected features after the call. -/
theorem region3 (c : Dev nD) : (dat3 V c).arrAt 2 cfg3.N = k0_pay1 (V c main_v115_0) (V c main_arg6) := by
  refine (dat3 V c).arrAt_eq_of_after_last 2 ⟨0, by decide⟩ (by decide +kernel) _ fun j => ?_
  obtain ⟨h0, h1⟩ := in3 V c ⟨0, by decide⟩
  rw [after3_2, out3_2, View.canon_unit_zero hz, View.ld_unit_zero hz, View.ld_unit_zero hz, h0, h1, project_copy3]
  rfl

/-- The blocks that block 3's projecting call reads are its whole input arrays. -/
theorem in6 (c : Dev nD) (t) : iblk6 V c 0 t = V c main_v239_0 ∧ iblk6 V c 1 t = V c main_arg9 :=
  ⟨blk_whole _ _ _ _ _ (Memref.isWhole_whole _) (hstage6_0 0) _ _,
    blk_whole _ _ _ _ _ (Memref.isWhole_whole _) (hstage6_1 0) _ _⟩

/-- Block 3: the projected features after the call. -/
theorem region6 (c : Dev nD) : (dat6 V c).arrAt 2 cfg6.N = k0_pay1 (V c main_v239_0) (V c main_arg9) := by
  refine (dat6 V c).arrAt_eq_of_after_last 2 ⟨0, by decide⟩ (by decide +kernel) _ fun j => ?_
  obtain ⟨h0, h1⟩ := in6 V c ⟨0, by decide⟩
  rw [after6_2, out6_2, View.canon_unit_zero hz, View.ld_unit_zero hz, View.ld_unit_zero hz, h0, h1, project_copy6]
  rfl

/-- The blocks that block 4's projecting call reads are its whole input arrays. -/
theorem in9 (c : Dev nD) (t) : iblk9 V c 0 t = V c main_v363_0 ∧ iblk9 V c 1 t = V c main_arg12 :=
  ⟨blk_whole _ _ _ _ _ (Memref.isWhole_whole _) (hstage9_0 0) _ _,
    blk_whole _ _ _ _ _ (Memref.isWhole_whole _) (hstage9_1 0) _ _⟩

/-- Block 4: the projected features after the call. -/
theorem region9 (c : Dev nD) : (dat9 V c).arrAt 2 cfg9.N = k0_pay1 (V c main_v363_0) (V c main_arg12) := by
  refine (dat9 V c).arrAt_eq_of_after_last 2 ⟨0, by decide⟩ (by decide +kernel) _ fun j => ?_
  obtain ⟨h0, h1⟩ := in9 V c ⟨0, by decide⟩
  rw [after9_2, out9_2, View.canon_unit_zero hz, View.ld_unit_zero hz, View.ld_unit_zero hz, h0, h1, project_copy9]
  rfl

/-! ## The combine-and-score step -/

/-- The blocks that block 1's combining call reads are its whole input arrays. -/
theorem in1 (c : Dev nD) (t) : iblk1 V c 0 t = V c main_v55 ∧ iblk1 V c 1 t = V c main_v8 ∧
    iblk1 V c 2 t = V c main_v57 ∧ iblk1 V c 3 t = V c main_v58 ∧ iblk1 V c 4 t = V c main_v59 :=
  ⟨blk_whole _ _ _ _ _ (Memref.isWhole_whole _) (hstage1_0 0) _ _,
    blk_whole _ _ _ _ _ (Memref.isWhole_whole _) (hstage1_1 0) _ _,
    blk_whole _ _ _ _ _ (Memref.isWhole_whole _) (hstage1_2 0) _ _,
    blk_whole _ _ _ _ _ (Memref.isWhole_whole _) (hstage1_3 0) _ _,
    blk_whole _ _ _ _ _ (Memref.isWhole_whole _) (hstage1_4 0) _ _⟩

/-- Block 1: the combined features after the call. -/
theorem region1_out (c : Dev nD) : (dat1 V c).arrAt 5 cfg1.N =
    k1_pay1 (V c main_v55) (V c main_v57) (V c main_v8) (V c main_v58) := by
  refine (dat1 V c).arrAt_eq_of_after_last 5 ⟨0, by decide⟩ (by decide +kernel) _ fun j => ?_
  obtain ⟨h0, h1, h2, h3, -⟩ := in1 V c ⟨0, by decide⟩
  rw [after1_5, out1_5, View.canon_unit_zero hz]
  repeat rw [View.ld_unit_zero hz]
  rw [h0, h1, h2, h3]
  rfl

/-- Block 1: the scores after the call. -/
theorem region1_score (c : Dev nD) : (dat1 V c).arrAt 6 cfg1.N =
    k1_pay2 (V c main_v55) (V c main_v57) (V c main_v8) (V c main_v58) (V c main_v59) := by
  refine (dat1 V c).arrAt_eq_of_after_last 6 ⟨0, by decide⟩ (by decide +kernel) _ fun j => ?_
  obtain ⟨h0, h1, h2, h3, h4⟩ := in1 V c ⟨0, by decide⟩
  rw [after1_6, out1_6, View.canon_unit_zero hz]
  repeat rw [View.ld_unit_zero hz]
  rw [h0, h1, h2, h3, h4]
  rfl

/-- The blocks that block 2's combining call reads are its whole input arrays. -/
theorem in4 (c : Dev nD) (t) : iblk4 V c 0 t = V c main_v179 ∧ iblk4 V c 1 t = V c main_v132 ∧
    iblk4 V c 2 t = V c main_v181 ∧ iblk4 V c 3 t = V c main_v182 ∧ iblk4 V c 4 t = V c main_v183 :=
  ⟨blk_whole _ _ _ _ _ (Memref.isWhole_whole _) (hstage4_0 0) _ _,
    blk_whole _ _ _ _ _ (Memref.isWhole_whole _) (hstage4_1 0) _ _,
    blk_whole _ _ _ _ _ (Memref.isWhole_whole _) (hstage4_2 0) _ _,
    blk_whole _ _ _ _ _ (Memref.isWhole_whole _) (hstage4_3 0) _ _,
    blk_whole _ _ _ _ _ (Memref.isWhole_whole _) (hstage4_4 0) _ _⟩

/-- Block 2: the combined features after the call. -/
theorem region4_out (c : Dev nD) : (dat4 V c).arrAt 5 cfg4.N =
    k1_pay1 (V c main_v179) (V c main_v181) (V c main_v132) (V c main_v182) := by
  refine (dat4 V c).arrAt_eq_of_after_last 5 ⟨0, by decide⟩ (by decide +kernel) _ fun j => ?_
  obtain ⟨h0, h1, h2, h3, -⟩ := in4 V c ⟨0, by decide⟩
  rw [after4_5, out4_5, View.canon_unit_zero hz]
  repeat rw [View.ld_unit_zero hz]
  rw [h0, h1, h2, h3]
  rfl

/-- Block 2: the scores after the call. -/
theorem region4_score (c : Dev nD) : (dat4 V c).arrAt 6 cfg4.N =
    k1_pay2 (V c main_v179) (V c main_v181) (V c main_v132) (V c main_v182) (V c main_v183) := by
  refine (dat4 V c).arrAt_eq_of_after_last 6 ⟨0, by decide⟩ (by decide +kernel) _ fun j => ?_
  obtain ⟨h0, h1, h2, h3, h4⟩ := in4 V c ⟨0, by decide⟩
  rw [after4_6, out4_6, View.canon_unit_zero hz]
  repeat rw [View.ld_unit_zero hz]
  rw [h0, h1, h2, h3, h4]
  rfl

/-- The blocks that block 3's combining call reads are its whole input arrays. -/
theorem in7 (c : Dev nD) (t) : iblk7 V c 0 t = V c main_v303 ∧ iblk7 V c 1 t = V c main_v256 ∧
    iblk7 V c 2 t = V c main_v305 ∧ iblk7 V c 3 t = V c main_v306 ∧ iblk7 V c 4 t = V c main_v307 :=
  ⟨blk_whole _ _ _ _ _ (Memref.isWhole_whole _) (hstage7_0 0) _ _,
    blk_whole _ _ _ _ _ (Memref.isWhole_whole _) (hstage7_1 0) _ _,
    blk_whole _ _ _ _ _ (Memref.isWhole_whole _) (hstage7_2 0) _ _,
    blk_whole _ _ _ _ _ (Memref.isWhole_whole _) (hstage7_3 0) _ _,
    blk_whole _ _ _ _ _ (Memref.isWhole_whole _) (hstage7_4 0) _ _⟩

/-- Block 3: the combined features after the call. -/
theorem region7_out (c : Dev nD) : (dat7 V c).arrAt 5 cfg7.N =
    k1_pay1 (V c main_v303) (V c main_v305) (V c main_v256) (V c main_v306) := by
  refine (dat7 V c).arrAt_eq_of_after_last 5 ⟨0, by decide⟩ (by decide +kernel) _ fun j => ?_
  obtain ⟨h0, h1, h2, h3, -⟩ := in7 V c ⟨0, by decide⟩
  rw [after7_5, out7_5, View.canon_unit_zero hz]
  repeat rw [View.ld_unit_zero hz]
  rw [h0, h1, h2, h3]
  rfl

/-- Block 3: the scores after the call. -/
theorem region7_score (c : Dev nD) : (dat7 V c).arrAt 6 cfg7.N =
    k1_pay2 (V c main_v303) (V c main_v305) (V c main_v256) (V c main_v306) (V c main_v307) := by
  refine (dat7 V c).arrAt_eq_of_after_last 6 ⟨0, by decide⟩ (by decide +kernel) _ fun j => ?_
  obtain ⟨h0, h1, h2, h3, h4⟩ := in7 V c ⟨0, by decide⟩
  rw [after7_6, out7_6, View.canon_unit_zero hz]
  repeat rw [View.ld_unit_zero hz]
  rw [h0, h1, h2, h3, h4]
  rfl

/-- The blocks that block 4's combining call reads are its whole input arrays. -/
theorem in10 (c : Dev nD) (t) : iblk10 V c 0 t = V c main_v427 ∧ iblk10 V c 1 t = V c main_v380 ∧
    iblk10 V c 2 t = V c main_v429 ∧ iblk10 V c 3 t = V c main_v430 ∧ iblk10 V c 4 t = V c main_v431 :=
  ⟨blk_whole _ _ _ _ _ (Memref.isWhole_whole _) (hstage10_0 0) _ _,
    blk_whole _ _ _ _ _ (Memref.isWhole_whole _) (hstage10_1 0) _ _,
    blk_whole _ _ _ _ _ (Memref.isWhole_whole _) (hstage10_2 0) _ _,
    blk_whole _ _ _ _ _ (Memref.isWhole_whole _) (hstage10_3 0) _ _,
    blk_whole _ _ _ _ _ (Memref.isWhole_whole _) (hstage10_4 0) _ _⟩

/-- Block 4: the combined features after the call. -/
theorem region10_out (c : Dev nD) : (dat10 V c).arrAt 5 cfg10.N =
    k1_pay1 (V c main_v427) (V c main_v429) (V c main_v380) (V c main_v430) := by
  refine (dat10 V c).arrAt_eq_of_after_last 5 ⟨0, by decide⟩ (by decide +kernel) _ fun j => ?_
  obtain ⟨h0, h1, h2, h3, -⟩ := in10 V c ⟨0, by decide⟩
  rw [after10_5, out10_5, View.canon_unit_zero hz]
  repeat rw [View.ld_unit_zero hz]
  rw [h0, h1, h2, h3]
  rfl

/-- Block 4: the scores after the call. -/
theorem region10_score (c : Dev nD) : (dat10 V c).arrAt 6 cfg10.N =
    k1_pay2 (V c main_v427) (V c main_v429) (V c main_v380) (V c main_v430) (V c main_v431) := by
  refine (dat10 V c).arrAt_eq_of_after_last 6 ⟨0, by decide⟩ (by decide +kernel) _ fun j => ?_
  obtain ⟨h0, h1, h2, h3, h4⟩ := in10 V c ⟨0, by decide⟩
  rw [after10_6, out10_6, View.canon_unit_zero hz]
  repeat rw [View.ld_unit_zero hz]
  rw [h0, h1, h2, h3, h4]
  rfl

/-! ## The head -/

/-- The blocks the head reads are its whole input arrays. -/
theorem in12 (c : Dev nD) (t) : iblk12 V c 0 t = V c main_v506 ∧ iblk12 V c 1 t = V c main_arg15 ∧
    iblk12 V c 2 t = V c main_v507 ∧ iblk12 V c 3 t = V c main_arg17 ∧ iblk12 V c 4 t = V c main_v508 ∧
    iblk12 V c 5 t = V c main_arg19 ∧ iblk12 V c 6 t = V c main_v509 :=
  ⟨blk_whole _ _ _ _ _ (Memref.isWhole_whole _) (hstage12_0 0) _ _,
    blk_whole _ _ _ _ _ (Memref.isWhole_whole _) (hstage12_1 0) _ _,
    blk_whole _ _ _ _ _ (Memref.isWhole_whole _) (hstage12_2 0) _ _,
    blk_whole _ _ _ _ _ (Memref.isWhole_whole _) (hstage12_3 0) _ _,
    blk_whole _ _ _ _ _ (Memref.isWhole_whole _) (hstage12_4 0) _ _,
    blk_whole _ _ _ _ _ (Memref.isWhole_whole _) (hstage12_5 0) _ _,
    blk_whole _ _ _ _ _ (Memref.isWhole_whole _) (hstage12_6 0) _ _⟩

/-- The output after the head's call. -/
theorem region12 (c : Dev nD) : (dat12 V c).arrAt 7 cfg12.N =
    k12_pay1 (V c main_v506) (V c main_arg15) (V c main_v507) (V c main_arg17) (V c main_v508) (V c main_arg19) (V c main_v509) := by
  refine (dat12 V c).arrAt_eq_of_after_last 7 ⟨0, by decide⟩ (by decide +kernel) _ fun j => ?_
  obtain ⟨h0, h1, h2, h3, h4, h5, h6⟩ := in12 V c ⟨0, by decide⟩
  rw [after12_7, out12_7, View.canon_unit_zero hz]
  repeat rw [View.ld_unit_zero hz]
  rw [h0, h1, h2, h3, h4, h5, h6]
  rfl

end Cert.KernelIdeal.Val

end
-- ==== Proof.GateRegions.lean ====
/-
  What the gate-and-readout calls leave: the gated features, and the readout whose left half holds one graph's largest
  values per row (stored row by row) and whose right half the means.
-/
module

public import proofs.«01_k».proof.Proof.Regions

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

variable {F : FTy → Type} [FloatOps F]

/-- Graph `g`'s largest value of each feature over the nodes whose mask is positive, as the kernel takes it. -/
def rowMax (g : BitVec 32) (x : FVec F S10000x128 .f32) (batch : IVec S10000x1 32) (bot : FVec F S10000x128 .f32)
    (alive : IVec S10000x1 1) : FVec F S128 .f32 :=
  multiReduction .maximumf [0] S128
    (select (broadcastTo S10000x128 (shapeCast S10000x1 (andi alive (cmpi .eq batch (broadcast S10000x1 g)))
        shapeCasts_S10000x1_S10000x1) broadcasts_S10000x1_S10000x128) x bot)
    0xFF800000#32 reduces_S10000x128_S128 (.inl rfl) rfl

/-- The readout array of one gate-and-readout call. -/
def readoutK (x : FVec F S10000x128 .f32) (s mask : FVec F S10000x1 .f32) (batchCol : IVec S10000x1 32)
    (batchRow : IVec S1x10000 32) : FVec F S16x256 .f32 := fun y =>
  if h : (y 1 : Nat) < 128 then
    rowMax (BitVec.ofNat 32 (y 0)) (k2_pay6 x mask s) (k2_pay8 (F := F) batchCol) (k2_pay9 (F := F)) (k2_pay10 mask)
      (ix1 ⟨(y 1 : Nat), h⟩)
  else k2_pay7 x mask s batchRow
    (ix2 ⟨(y 0 : Nat), (y 0).isLt⟩ ⟨(y 1 : Nat) - 128, by have : (y 1 : Nat) < 256 := (y 1).isLt; omega⟩)

/-- A load of a whole rank-two buffer reads its contents. -/
theorem load_whole {sp : Space} {e : EltTy} {A B : Nat} (m : Memref sig .tc sp ⟨2, ![A, B]⟩ e) (h : m.IsWhole)
    (inb : ∀ a, (![0, 0] : Fin 2 → Nat) a + (![A, B] : Fin 2 → Nat) a ≤ (![A, B] : Fin 2 → Nat) a)
    (x : Vec F ⟨2, ![A, B]⟩ e) :
    View.readAt (Elt F) m.view (Rect.unit (s := ⟨2, ![A, B]⟩) ![0, 0] ![A, B] inb).toLoadRect (h.unread x) = x := by
  rw [View.readAt_eq_ld, h.read_unread, View.ld_unit_zero hz]

/-- The row stored for graph `g` is row `g` of the readout's left half. -/
theorem readoutK_row (x : FVec F S10000x128 .f32) (s mask : FVec F S10000x1 .f32) (batchCol : IVec S10000x1 32)
    (batchRow : IVec S1x10000 32) (g : Nat) (inb) (i : S1x128.Idx) :
    shapeCast S1x128 (rowMax (BitVec.ofNat 32 g) (k2_pay6 x mask s) (k2_pay8 (F := F) batchCol) (k2_pay9 (F := F)) (k2_pay10 mask))
        shapeCasts_S128_S1x128 i
      = readoutK x s mask batchCol batchRow ((Rect.unit (s := S16x256) ![g, 0] S1x128.size inb).emb i) := by
  have e0 : (((Rect.unit (s := S16x256) ![g, 0] S1x128.size inb).emb i 0 : Fin _) : Nat) = g := by
    have h : (i 0 : Nat) < 1 := (i 0).isLt
    rw [ValueKit.rect_emb_unit_val]
    show g + (i 0 : Nat) = g
    omega
  have e1 : (((Rect.unit (s := S16x256) ![g, 0] S1x128.size inb).emb i 1 : Fin _) : Nat) = (i 1 : Nat) := by
    rw [ValueKit.rect_emb_unit_val]
    exact Nat.zero_add _
  have h1 : (i 1 : Nat) < 128 := (i 1).isLt
  unfold readoutK
  rw [dif_pos (by rw [e1]; exact h1), e0]
  refine (shapeCast_addUnit_apply ![128] _ _ _).trans (congrArg _ ?_)
  funext a
  match a with
  | ⟨0, _⟩ => exact Fin.ext e1.symm

/-- The block stored for the means is the readout's right half. -/
theorem readoutK_mean (x : FVec F S10000x128 .f32) (s mask : FVec F S10000x1 .f32) (batchCol : IVec S10000x1 32)
    (batchRow : IVec S1x10000 32) (inb) (i : S16x128.Idx) :
    k2_pay7 x mask s batchRow i
      = readoutK x s mask batchCol batchRow ((Rect.unit (s := S16x256) ![0, 128] S16x128.size inb).emb i) := by
  have e0 : (((Rect.unit (s := S16x256) ![0, 128] S16x128.size inb).emb i 0 : Fin _) : Nat) = (i 0 : Nat) := by
    rw [ValueKit.rect_emb_unit_val]
    exact Nat.zero_add _
  have e1 : (((Rect.unit (s := S16x256) ![0, 128] S16x128.size inb).emb i 1 : Fin _) : Nat) = 128 + (i 1 : Nat) := by
    rw [ValueKit.rect_emb_unit_val]
    rfl
  unfold readoutK
  rw [dif_neg (by rw [e1]; omega)]
  refine congrArg _ ?_
  funext a
  match a with
  | ⟨0, _⟩ => exact Fin.ext e0.symm
  | ⟨1, _⟩ => exact Fin.ext (by show (i 1 : Nat) = _ - 128; rw [e1]; omega)

variable (V : (c : Dev nD) → (b : Ref sig .tc) → Buf (Elt F) ((c : Thread nD τ).loc b))

/-! ## Call 2 -/

/-- The blocks that block 1's gating call reads are its whole input arrays. -/
theorem in2 (c : Dev nD) (t) : iblk2 V c 0 t = V c main_v60_0 ∧ iblk2 V c 1 t = V c main_v60_1 ∧
    iblk2 V c 2 t = V c main_v114 ∧ iblk2 V c 3 t = V c main_v4 ∧ iblk2 V c 4 t = V c main_v5 :=
  ⟨blk_whole _ _ _ _ _ (Memref.isWhole_whole _) (hstage2_0 0) _ _,
    blk_whole _ _ _ _ _ (Memref.isWhole_whole _) (hstage2_1 0) _ _,
    blk_whole _ _ _ _ _ (Memref.isWhole_whole _) (hstage2_2 0) _ _,
    blk_whole _ _ _ _ _ (Memref.isWhole_whole _) (hstage2_3 0) _ _,
    blk_whole _ _ _ _ _ (Memref.isWhole_whole _) (hstage2_4 0) _ _⟩

/-- What the body of block 1's gating call leaves in its features, at any inputs. -/
theorem run2_gate (c : Dev nD) (arg0) (h0) (arg1) (h1) (arg2) (h2) (arg3) (h3) (arg4) (h4) (arg5) (h5) (arg6) (h6)
    (x0 : Vec F S10000x128 .f32) (x1 : Vec F S10000x1 .f32) (x2 : Vec F S10000x1 .f32) (x3 : Vec F S10000x1 .i32)
    (x4 : Vec F S1x10000 .i32) :
    View.canon (kernelRun2_A c arg0 h0 arg1 h1 arg2 h2 arg3 h3 arg4 h4 arg5 h5 arg6 h6 x0 x1 x2 x3 x4).1 = k2_pay6 x0 x2 x1 := by
  unfold kernelRun2_A
  dsimp only
  rw [View.canon_unit_zero hz, load_whole, load_whole, load_whole]

/-- What the body of block 1's gating call leaves in its readout, at any inputs. -/
theorem run2_readout (c : Dev nD) (arg0) (h0) (arg1) (h1) (arg2) (h2) (arg3) (h3) (arg4) (h4) (arg5) (h5) (arg6) (h6)
    (x0 : Vec F S10000x128 .f32) (x1 : Vec F S10000x1 .f32) (x2 : Vec F S10000x1 .f32) (x3 : Vec F S10000x1 .i32)
    (x4 : Vec F S1x10000 .i32) :
    View.canon (kernelRun2_A c arg0 h0 arg1 h1 arg2 h2 arg3 h3 arg4 h4 arg5 h5 arg6 h6 x0 x1 x2 x3 x4).2.1 = readoutK x0 x1 x2 x3 x4 := by
  funext y
  refine View.canon_apply_of_pieces _ _ ?_ y (cover2_A_6 c arg0 h0 arg1 h1 arg2 h2 arg3 h3 arg4 h4 arg5 h5 arg6 h6 x0 x1 x2 x3 x4 y)
  unfold kernelRun2_A
  dsimp only
  simp only [kernelRun2_A.sl.r, kernelRun2_A.sl.r_1, kernelRun2_A.sl.r_2, kernelRun2_A.sl.r_3, kernelRun2_A.sl.r_4,
    kernelRun2_A.sl.r_5, kernelRun2_A.sl.r_6, load_whole, List.forall_mem_cons]
  have row := readoutK_row x0 x1 x2 x3 x4
  exact ⟨row 15 _, row 14 _, row 13 _, row 12 _, row 11 _, row 10 _, row 9 _, row 8 _, row 7 _, row 6 _, row 5 _, row 4 _,
    row 3 _, row 2 _, row 1 _, row 0 _, readoutK_mean x0 x1 x2 x3 x4 _, by simp⟩

/-- Block 1: the gated features after the call. -/
theorem region2_gate (c : Dev nD) : (dat2 V c).arrAt 5 cfg2.N =
    k2_pay6 (V c main_v60_0) (V c main_v114) (V c main_v60_1) := by
  refine (dat2 V c).arrAt_eq_of_after_last 5 ⟨0, by decide⟩ (by decide +kernel) _ fun j => ?_
  obtain ⟨h0, h1, h2, h3, h4⟩ := in2 V c ⟨0, by decide⟩
  rw [after2_5, outsAt2]
  unfold out2_A_5
  rw [View.read_writes_junk_eq_canon, run2_gate, h0, h1, h2]
  rfl

/-- Block 1: the readout after the call. -/
theorem region2_readout (c : Dev nD) : (dat2 V c).arrAt 6 cfg2.N =
    readoutK (V c main_v60_0) (V c main_v60_1) (V c main_v114) (V c main_v4) (V c main_v5) := by
  refine (dat2 V c).arrAt_eq_of_after_last 6 ⟨0, by decide⟩ (by decide +kernel) _ fun j => ?_
  obtain ⟨h0, h1, h2, h3, h4⟩ := in2 V c ⟨0, by decide⟩
  rw [after2_6, outsAt2]
  unfold out2_A_6
  rw [View.read_writes_junk_eq_canon, run2_readout, h0, h1, h2, h3, h4]
  rfl

/-! ## Call 5 -/

/-- The blocks that block 2's gating call reads are its whole input arrays. -/
theorem in5 (c : Dev nD) (t) : iblk5 V c 0 t = V c main_v184_0 ∧ iblk5 V c 1 t = V c main_v184_1 ∧
    iblk5 V c 2 t = V c main_v238 ∧ iblk5 V c 3 t = V c main_v4 ∧ iblk5 V c 4 t = V c main_v5 :=
  ⟨blk_whole _ _ _ _ _ (Memref.isWhole_whole _) (hstage5_0 0) _ _,
    blk_whole _ _ _ _ _ (Memref.isWhole_whole _) (hstage5_1 0) _ _,
    blk_whole _ _ _ _ _ (Memref.isWhole_whole _) (hstage5_2 0) _ _,
    blk_whole _ _ _ _ _ (Memref.isWhole_whole _) (hstage5_3 0) _ _,
    blk_whole _ _ _ _ _ (Memref.isWhole_whole _) (hstage5_4 0) _ _⟩

/-- What the body of block 2's gating call leaves in its features, at any inputs. -/
theorem run5_gate (c : Dev nD) (arg0) (h0) (arg1) (h1) (arg2) (h2) (arg3) (h3) (arg4) (h4) (arg5) (h5) (arg6) (h6)
    (x0 : Vec F S10000x128 .f32) (x1 : Vec F S10000x1 .f32) (x2 : Vec F S10000x1 .f32) (x3 : Vec F S10000x1 .i32)
    (x4 : Vec F S1x10000 .i32) :
    View.canon (kernelRun5_A c arg0 h0 arg1 h1 arg2 h2 arg3 h3 arg4 h4 arg5 h5 arg6 h6 x0 x1 x2 x3 x4).1 = k2_pay6 x0 x2 x1 := by
  unfold kernelRun5_A
  dsimp only
  rw [View.canon_unit_zero hz, load_whole, load_whole, load_whole]
  rfl

/-- What the body of block 2's gating call leaves in its readout, at any inputs. -/
theorem run5_readout (c : Dev nD) (arg0) (h0) (arg1) (h1) (arg2) (h2) (arg3) (h3) (arg4) (h4) (arg5) (h5) (arg6) (h6)
    (x0 : Vec F S10000x128 .f32) (x1 : Vec F S10000x1 .f32) (x2 : Vec F S10000x1 .f32) (x3 : Vec F S10000x1 .i32)
    (x4 : Vec F S1x10000 .i32) :
    View.canon (kernelRun5_A c arg0 h0 arg1 h1 arg2 h2 arg3 h3 arg4 h4 arg5 h5 arg6 h6 x0 x1 x2 x3 x4).2.1 = readoutK x0 x1 x2 x3 x4 := by
  funext y
  refine View.canon_apply_of_pieces _ _ ?_ y (cover5_A_6 c arg0 h0 arg1 h1 arg2 h2 arg3 h3 arg4 h4 arg5 h5 arg6 h6 x0 x1 x2 x3 x4 y)
  unfold kernelRun5_A
  dsimp only
  simp only [kernelRun5_A.sl.r, kernelRun5_A.sl.r_1, kernelRun5_A.sl.r_2, kernelRun5_A.sl.r_3, kernelRun5_A.sl.r_4,
    kernelRun5_A.sl.r_5, kernelRun5_A.sl.r_6, load_whole, List.forall_mem_cons]
  have row := readoutK_row x0 x1 x2 x3 x4
  exact ⟨row 15 _, row 14 _, row 13 _, row 12 _, row 11 _, row 10 _, row 9 _, row 8 _, row 7 _, row 6 _, row 5 _, row 4 _,
    row 3 _, row 2 _, row 1 _, row 0 _, readoutK_mean x0 x1 x2 x3 x4 _, by simp⟩

/-- Block 2: the gated features after the call. -/
theorem region5_gate (c : Dev nD) : (dat5 V c).arrAt 5 cfg5.N =
    k2_pay6 (V c main_v184_0) (V c main_v238) (V c main_v184_1) := by
  refine (dat5 V c).arrAt_eq_of_after_last 5 ⟨0, by decide⟩ (by decide +kernel) _ fun j => ?_
  obtain ⟨h0, h1, h2, h3, h4⟩ := in5 V c ⟨0, by decide⟩
  rw [after5_5, outsAt5]
  unfold out5_A_5
  rw [View.read_writes_junk_eq_canon, run5_gate, h0, h1, h2]
  rfl

/-- Block 2: the readout after the call. -/
theorem region5_readout (c : Dev nD) : (dat5 V c).arrAt 6 cfg5.N =
    readoutK (V c main_v184_0) (V c main_v184_1) (V c main_v238) (V c main_v4) (V c main_v5) := by
  refine (dat5 V c).arrAt_eq_of_after_last 6 ⟨0, by decide⟩ (by decide +kernel) _ fun j => ?_
  obtain ⟨h0, h1, h2, h3, h4⟩ := in5 V c ⟨0, by decide⟩
  rw [after5_6, outsAt5]
  unfold out5_A_6
  rw [View.read_writes_junk_eq_canon, run5_readout, h0, h1, h2, h3, h4]
  rfl

/-! ## Call 8 -/

/-- The blocks that block 3's gating call reads are its whole input arrays. -/
theorem in8 (c : Dev nD) (t) : iblk8 V c 0 t = V c main_v308_0 ∧ iblk8 V c 1 t = V c main_v308_1 ∧
    iblk8 V c 2 t = V c main_v362 ∧ iblk8 V c 3 t = V c main_v4 ∧ iblk8 V c 4 t = V c main_v5 :=
  ⟨blk_whole _ _ _ _ _ (Memref.isWhole_whole _) (hstage8_0 0) _ _,
    blk_whole _ _ _ _ _ (Memref.isWhole_whole _) (hstage8_1 0) _ _,
    blk_whole _ _ _ _ _ (Memref.isWhole_whole _) (hstage8_2 0) _ _,
    blk_whole _ _ _ _ _ (Memref.isWhole_whole _) (hstage8_3 0) _ _,
    blk_whole _ _ _ _ _ (Memref.isWhole_whole _) (hstage8_4 0) _ _⟩

/-- What the body of block 3's gating call leaves in its features, at any inputs. -/
theorem run8_gate (c : Dev nD) (arg0) (h0) (arg1) (h1) (arg2) (h2) (arg3) (h3) (arg4) (h4) (arg5) (h5) (arg6) (h6)
    (x0 : Vec F S10000x128 .f32) (x1 : Vec F S10000x1 .f32) (x2 : Vec F S10000x1 .f32) (x3 : Vec F S10000x1 .i32)
    (x4 : Vec F S1x10000 .i32) :
    View.canon (kernelRun8_A c arg0 h0 arg1 h1 arg2 h2 arg3 h3 arg4 h4 arg5 h5 arg6 h6 x0 x1 x2 x3 x4).1 = k2_pay6 x0 x2 x1 := by
  unfold kernelRun8_A
  dsimp only
  rw [View.canon_unit_zero hz, load_whole, load_whole, load_whole]
  rfl

/-- What the body of block 3's gating call leaves in its readout, at any inputs. -/
theorem run8_readout (c : Dev nD) (arg0) (h0) (arg1) (h1) (arg2) (h2) (arg3) (h3) (arg4) (h4) (arg5) (h5) (arg6) (h6)
    (x0 : Vec F S10000x128 .f32) (x1 : Vec F S10000x1 .f32) (x2 : Vec F S10000x1 .f32) (x3 : Vec F S10000x1 .i32)
    (x4 : Vec F S1x10000 .i32) :
    View.canon (kernelRun8_A c arg0 h0 arg1 h1 arg2 h2 arg3 h3 arg4 h4 arg5 h5 arg6 h6 x0 x1 x2 x3 x4).2.1 = readoutK x0 x1 x2 x3 x4 := by
  funext y
  refine View.canon_apply_of_pieces _ _ ?_ y (cover8_A_6 c arg0 h0 arg1 h1 arg2 h2 arg3 h3 arg4 h4 arg5 h5 arg6 h6 x0 x1 x2 x3 x4 y)
  unfold kernelRun8_A
  dsimp only
  simp only [kernelRun8_A.sl.r, kernelRun8_A.sl.r_1, kernelRun8_A.sl.r_2, kernelRun8_A.sl.r_3, kernelRun8_A.sl.r_4,
    kernelRun8_A.sl.r_5, kernelRun8_A.sl.r_6, load_whole, List.forall_mem_cons]
  have row := readoutK_row x0 x1 x2 x3 x4
  exact ⟨row 15 _, row 14 _, row 13 _, row 12 _, row 11 _, row 10 _, row 9 _, row 8 _, row 7 _, row 6 _, row 5 _, row 4 _,
    row 3 _, row 2 _, row 1 _, row 0 _, readoutK_mean x0 x1 x2 x3 x4 _, by simp⟩

/-- Block 3: the gated features after the call. -/
theorem region8_gate (c : Dev nD) : (dat8 V c).arrAt 5 cfg8.N =
    k2_pay6 (V c main_v308_0) (V c main_v362) (V c main_v308_1) := by
  refine (dat8 V c).arrAt_eq_of_after_last 5 ⟨0, by decide⟩ (by decide +kernel) _ fun j => ?_
  obtain ⟨h0, h1, h2, h3, h4⟩ := in8 V c ⟨0, by decide⟩
  rw [after8_5, outsAt8]
  unfold out8_A_5
  rw [View.read_writes_junk_eq_canon, run8_gate, h0, h1, h2]
  rfl

/-- Block 3: the readout after the call. -/
theorem region8_readout (c : Dev nD) : (dat8 V c).arrAt 6 cfg8.N =
    readoutK (V c main_v308_0) (V c main_v308_1) (V c main_v362) (V c main_v4) (V c main_v5) := by
  refine (dat8 V c).arrAt_eq_of_after_last 6 ⟨0, by decide⟩ (by decide +kernel) _ fun j => ?_
  obtain ⟨h0, h1, h2, h3, h4⟩ := in8 V c ⟨0, by decide⟩
  rw [after8_6, outsAt8]
  unfold out8_A_6
  rw [View.read_writes_junk_eq_canon, run8_readout, h0, h1, h2, h3, h4]
  rfl

/-! ## Call 11 -/

/-- The blocks that block 4's gating call reads are its whole input arrays. -/
theorem in11 (c : Dev nD) (t) : iblk11 V c 0 t = V c main_v432_0 ∧ iblk11 V c 1 t = V c main_v432_1 ∧
    iblk11 V c 2 t = V c main_v486 ∧ iblk11 V c 3 t = V c main_v4 ∧ iblk11 V c 4 t = V c main_v5 :=
  ⟨blk_whole _ _ _ _ _ (Memref.isWhole_whole _) (hstage11_0 0) _ _,
    blk_whole _ _ _ _ _ (Memref.isWhole_whole _) (hstage11_1 0) _ _,
    blk_whole _ _ _ _ _ (Memref.isWhole_whole _) (hstage11_2 0) _ _,
    blk_whole _ _ _ _ _ (Memref.isWhole_whole _) (hstage11_3 0) _ _,
    blk_whole _ _ _ _ _ (Memref.isWhole_whole _) (hstage11_4 0) _ _⟩

/-- What the body of block 4's gating call leaves in its features, at any inputs. -/
theorem run11_gate (c : Dev nD) (arg0) (h0) (arg1) (h1) (arg2) (h2) (arg3) (h3) (arg4) (h4) (arg5) (h5) (arg6) (h6)
    (x0 : Vec F S10000x128 .f32) (x1 : Vec F S10000x1 .f32) (x2 : Vec F S10000x1 .f32) (x3 : Vec F S10000x1 .i32)
    (x4 : Vec F S1x10000 .i32) :
    View.canon (kernelRun11_A c arg0 h0 arg1 h1 arg2 h2 arg3 h3 arg4 h4 arg5 h5 arg6 h6 x0 x1 x2 x3 x4).1 = k2_pay6 x0 x2 x1 := by
  unfold kernelRun11_A
  dsimp only
  rw [View.canon_unit_zero hz, load_whole, load_whole, load_whole]
  rfl

/-- What the body of block 4's gating call leaves in its readout, at any inputs. -/
theorem run11_readout (c : Dev nD) (arg0) (h0) (arg1) (h1) (arg2) (h2) (arg3) (h3) (arg4) (h4) (arg5) (h5) (arg6) (h6)
    (x0 : Vec F S10000x128 .f32) (x1 : Vec F S10000x1 .f32) (x2 : Vec F S10000x1 .f32) (x3 : Vec F S10000x1 .i32)
    (x4 : Vec F S1x10000 .i32) :
    View.canon (kernelRun11_A c arg0 h0 arg1 h1 arg2 h2 arg3 h3 arg4 h4 arg5 h5 arg6 h6 x0 x1 x2 x3 x4).2.1 = readoutK x0 x1 x2 x3 x4 := by
  funext y
  refine View.canon_apply_of_pieces _ _ ?_ y (cover11_A_6 c arg0 h0 arg1 h1 arg2 h2 arg3 h3 arg4 h4 arg5 h5 arg6 h6 x0 x1 x2 x3 x4 y)
  unfold kernelRun11_A
  dsimp only
  simp only [kernelRun11_A.sl.r, kernelRun11_A.sl.r_1, kernelRun11_A.sl.r_2, kernelRun11_A.sl.r_3, kernelRun11_A.sl.r_4,
    kernelRun11_A.sl.r_5, kernelRun11_A.sl.r_6, load_whole, List.forall_mem_cons]
  have row := readoutK_row x0 x1 x2 x3 x4
  exact ⟨row 15 _, row 14 _, row 13 _, row 12 _, row 11 _, row 10 _, row 9 _, row 8 _, row 7 _, row 6 _, row 5 _, row 4 _,
    row 3 _, row 2 _, row 1 _, row 0 _, readoutK_mean x0 x1 x2 x3 x4 _, by simp⟩

/-- Block 4: the gated features after the call. -/
theorem region11_gate (c : Dev nD) : (dat11 V c).arrAt 5 cfg11.N =
    k2_pay6 (V c main_v432_0) (V c main_v486) (V c main_v432_1) := by
  refine (dat11 V c).arrAt_eq_of_after_last 5 ⟨0, by decide⟩ (by decide +kernel) _ fun j => ?_
  obtain ⟨h0, h1, h2, h3, h4⟩ := in11 V c ⟨0, by decide⟩
  rw [after11_5, outsAt11]
  unfold out11_A_5
  rw [View.read_writes_junk_eq_canon, run11_gate, h0, h1, h2]
  rfl

/-- Block 4: the readout after the call. -/
theorem region11_readout (c : Dev nD) : (dat11 V c).arrAt 6 cfg11.N =
    readoutK (V c main_v432_0) (V c main_v432_1) (V c main_v486) (V c main_v4) (V c main_v5) := by
  refine (dat11 V c).arrAt_eq_of_after_last 6 ⟨0, by decide⟩ (by decide +kernel) _ fun j => ?_
  obtain ⟨h0, h1, h2, h3, h4⟩ := in11 V c ⟨0, by decide⟩
  rw [after11_6, outsAt11]
  unfold out11_A_6
  rw [View.read_writes_junk_eq_canon, run11_readout, h0, h1, h2, h3, h4]
  rfl

end Cert.KernelIdeal.Val

end
-- ==== Proof.Segments.lean ====
/-
  Sums per graph: a node whose graph index names graph `g` adds to row `g`, and a product with the matrix of zeros and
  ones that says which node is in which graph is the same sum.
-/
module

public import proofs.«01_k».proof.Proof.Net
public import Idealize.ShloMosaic.Lib.Pointwise

@[expose] public section

set_option maxRecDepth 16384

noncomputable section

namespace Cert.Net

open Idealize.ShloMosaic Idealize.ShloMosaic.TcCoe
open Cert.ReferenceIdeal Cert.ReferenceIdeal.Gen

/-- Node `n`'s features land in row `g` exactly if its index is `g`, each in its own column. -/
theorem lands_row (idx : IVec S10000x1 32) (n : Fin 10000) (k f : Fin 128) (g : Fin 16) :
    scatter_S16x128_S10000x1_S10000x128_1_0_0_1.resultIdx? (ix2 n k) idx = some (ix2 g f)
      ↔ (idx (ix2 n 0)).toInt = (g : Int) ∧ k = f := by
  have s0 : scatter_S16x128_S10000x1_S10000x128_1_0_0_1.start (ix2 n k) idx 0 = (idx (ix2 n 0)).toInt := by
    unfold ScatterDims.start
    rw [dif_pos (by decide)]
    refine congrArg (fun i => (idx i).toInt) ?_
    funext b
    match b with
    | ⟨0, _⟩ => rfl
    | ⟨1, _⟩ => rfl
  have s1 : scatter_S16x128_S10000x1_S10000x128_1_0_0_1.start (ix2 n k) idx 1 = 0 := by
    unfold ScatterDims.start
    rw [dif_neg (by decide)]
  have w0 : scatter_S16x128_S10000x1_S10000x128_1_0_0_1.window (ix2 n k) 0 = 0 := by
    unfold ScatterDims.window
    rw [dif_neg (by decide)]
  have w1 : scatter_S16x128_S10000x1_S10000x128_1_0_0_1.window (ix2 n k) 1 = (k : Nat) := by
    unfold ScatterDims.window
    rw [dif_pos (by decide)]
    rfl
  unfold ScatterDims.resultIdx?
  constructor
  · intro h
    split at h
    next hin =>
      have e := Option.some.inj h
      have e0 := congrArg Fin.val (congrFun e 0)
      have e1 := congrArg Fin.val (congrFun e 1)
      have h0 := hin 0
      simp only [s0, s1, w0, w1] at e0 e1 h0
      refine ⟨?_, Fin.ext ?_⟩
      · have : ((ix2 g f : S16x128.Idx) 0 : Fin 16) = g := rfl
        rw [this] at e0
        omega
      · have : ((ix2 g f : S16x128.Idx) 1 : Fin 128) = f := rfl
        rw [this] at e1
        omega
    next => exact absurd h (by simp)
  · rintro ⟨hg, rfl⟩
    have hlt : (g : Nat) < 16 := g.isLt
    rw [dif_pos]
    · congr 1
      funext a
      match a with
      | ⟨0, _⟩ => exact Fin.ext (by show (_ + _ : Int).toNat = (g : Nat); erw [s0, w0]; omega)
      | ⟨1, _⟩ =>
        have e : (scatter_S16x128_S10000x1_S10000x128_1_0_0_1.start (ix2 n k) idx 1
            + scatter_S16x128_S10000x1_S10000x128_1_0_0_1.window (ix2 n k) 1).toNat = (k : Nat) := by
          rw [s1, w1]
          omega
        exact Fin.ext e
    · intro a
      match a with
      | ⟨0, _⟩ =>
        erw [s0, w0]
        show 0 ≤ _ ∧ _ < ((16 : Nat) : Int)
        omega
      | ⟨1, _⟩ =>
        erw [s1, w1]
        have := k.isLt
        show 0 ≤ _ ∧ _ < ((128 : Nat) : Int)
        omega

/-- Node `n` counts for graph `g` exactly if its index is `g`. -/
theorem lands_one (idx : IVec S10000x1 32) (n : Fin 10000) (g : Fin 16) :
    scatter_S16_S10000x1_S10000_n_0_0_1.resultIdx? (ix1 n) idx = some (ix1 g) ↔ (idx (ix2 n 0)).toInt = (g : Int) := by
  have s0 : scatter_S16_S10000x1_S10000_n_0_0_1.start (ix1 n) idx 0 = (idx (ix2 n 0)).toInt := by
    unfold ScatterDims.start
    rw [dif_pos (by decide)]
    refine congrArg (fun i => (idx i).toInt) ?_
    funext b
    match b with
    | ⟨0, _⟩ => rfl
    | ⟨1, _⟩ => rfl
  have w0 : scatter_S16_S10000x1_S10000_n_0_0_1.window (ix1 n) 0 = 0 := by
    unfold ScatterDims.window
    rw [dif_neg (by decide)]
  have hlt : (g : Nat) < 16 := g.isLt
  unfold ScatterDims.resultIdx?
  constructor
  · intro h
    split at h
    next hin =>
      have e0 := congrArg Fin.val (congrFun (Option.some.inj h) 0)
      have h0 := hin 0
      simp only [s0, w0] at e0 h0
      have : ((ix1 g : S16.Idx) 0 : Fin 16) = g := rfl
      rw [this] at e0
      omega
    next => exact absurd h (by simp)
  · intro hg
    rw [dif_pos]
    · congr 1
      funext a
      match a with
      | ⟨0, _⟩ => exact Fin.ext (by show (_ + _ : Int).toNat = (g : Nat); erw [s0, w0]; omega)
    · intro a
      match a with
      | ⟨0, _⟩ =>
        erw [s0, w0]
        show 0 ≤ _ ∧ _ < ((16 : Nat) : Int)
        omega

/-- A small index read as a signed number is `g` exactly if it is the word `g`. -/
theorem toInt_eq (b : BitVec 32) (g : Fin 16) : b.toInt = (g : Int) ↔ b = BitVec.ofNat 32 g := by
  have hlt : (g : Nat) < 16 := g.isLt
  have hg : (BitVec.ofNat 32 g).toInt = (g : Int) := by
    rw [BitVec.toInt_eq_toNat_cond, BitVec.toNat_ofNat]
    split <;> omega
  exact ⟨fun h => BitVec.toInt_inj.1 (h.trans hg.symm), fun h => h ▸ hg⟩

/-- The sums of features per graph, written out. -/
theorem rowSums_apply (batch : IVec S10000 32) (x : FVec Ideal S10000x128 .f32) (g : Fin 16) (f : Fin 128) :
    Host.scatterAdd scatter_S16x128_S10000x1_S10000x128_1_0_0_1
      (broadcastInDim S16x128 ![] bcast_S_S16x128 (constant S_ .f32 0x00000000#32))
      (broadcastInDim S10000x1 ![0] bcast_S10000_S10000x1_0 batch) x (ix2 g f)
    = ∑ n : Fin 10000, if batch (ix1 n) = BitVec.ofNat 32 g then x (ix2 n f) else 0 := by
  have hz : broadcastInDim S16x128 ![] bcast_S_S16x128 (constant (F := Ideal) S_ .f32 0x00000000#32) (ix2 g f) = 0 := by
    pointwise
  have hb (n : Fin 10000) : broadcastInDim S10000x1 ![0] bcast_S10000_S10000x1_0 batch (ix2 n 0) = batch (ix1 n) := by
    pointwise
  show broadcastInDim S16x128 ![] bcast_S_S16x128 (constant (F := Ideal) S_ .f32 0x00000000#32) (ix2 g f) + ∑ j ∈ _, x j = _
  rw [hz, zero_add, Finset.sum_filter, sum_idx2]
  refine Finset.sum_congr rfl fun n _ => ?_
  simp only [lands_row, hb, toInt_eq]
  by_cases h : batch (ix1 n) = BitVec.ofNat 32 g
  · simp [h]
  · simp [h]

/-- The counts per graph, written out. -/
theorem counts_apply (batch : IVec S10000 32) (x : FVec Ideal S10000 .f32) (g : Fin 16) :
    Host.scatterAdd scatter_S16_S10000x1_S10000_n_0_0_1
      (broadcastInDim S16 ![] bcast_S_S16 (constant S_ .f32 0x00000000#32))
      (broadcastInDim S10000x1 ![0] bcast_S10000_S10000x1_0 batch) x (ix1 g)
    = ∑ n : Fin 10000, if batch (ix1 n) = BitVec.ofNat 32 g then x (ix1 n) else 0 := by
  have hz : broadcastInDim S16 ![] bcast_S_S16 (constant (F := Ideal) S_ .f32 0x00000000#32) (ix1 g) = 0 := by
    pointwise
  have hb (n : Fin 10000) : broadcastInDim S10000x1 ![0] bcast_S10000_S10000x1_0 batch (ix2 n 0) = batch (ix1 n) := by
    pointwise
  show broadcastInDim S16 ![] bcast_S_S16 (constant (F := Ideal) S_ .f32 0x00000000#32) (ix1 g) + ∑ j ∈ _, x j = _
  rw [hz, zero_add, Finset.sum_filter, sum_idx1]
  refine Finset.sum_congr rfl fun n _ => ?_
  simp only [lands_one, hb, toInt_eq]

/-- A zero-or-one membership times a value. -/
theorem member_mul (a b : BitVec 32) (y : EReal) :
    (FloatOps.sitofp (F := Ideal) .f32 (BitVec.setWidth 32 (IntOp.cmpi .eq a b)) : EReal) * y = if a = b then y else 0 := by
  by_cases h : a = b
  · rw [if_pos h, h]
    show (((BitVec.setWidth 32 (BitVec.ofBool (b == b))).toInt : ℝ) : EReal) * y = y
    simp
  · rw [if_neg h]
    show (((BitVec.setWidth 32 (BitVec.ofBool (a == b))).toInt : ℝ) : EReal) * y = 0
    have hf : (a == b) = false := by simpa using h
    rw [hf]
    simp

end Cert.Net

end
-- ==== Proof.Calls.lean ====
/-
  Each fused call's arithmetic over the extended reals is a stage of `Net.lean`.
-/
module

public import proofs.«01_k».proof.Proof.Net
public import proofs.«01_k».proof.Proof.GateRegions
public import proofs.«01_k».proof.Proof.Segments
public import Idealize.ShloMosaic.Lib.Pointwise

@[expose] public section

set_option maxRecDepth 16384

noncomputable section

namespace Cert.KernelIdeal.Val

open Idealize.ShloMosaic Idealize.ShloMosaic.TcCoe
open Cert.KernelIdeal Cert.KernelIdeal.Gen

/-- The projecting call. -/
theorem project_eq (x : FVec Ideal S10000x128 .f32) (W : FVec Ideal S128x128 .f32) : k0_pay1 x W = Net.project x W := by
  funext j
  unfold k0_pay1 Net.project
  pointwise

/-- The combining call's features. -/
theorem combine_eq (agg : FVec Ideal S10000x128 .f32) (d2 : FVec Ideal S10000x1 .f32) (xw : FVec Ideal S10000x128 .f32)
    (b : FVec Ideal S1x128 .f32) : k1_pay1 agg d2 xw b = Net.combine agg d2 xw b := by
  funext j
  unfold k1_pay1 Net.combine
  pointwise

/-- The choice of nodes as a column of zeros and ones. -/
abbrev maskCol (kp : IVec S10000 1) : FVec Ideal S10000x1 .f32 :=
  broadcastInDim S10000x1 ![0] bcast_S10000_S10000x1_0 (uitofp .f32 kp)

/-- The gate. -/
theorem gate_eq (x : FVec Ideal S10000x128 .f32) (s : FVec Ideal S10000x1 .f32) (kp : IVec S10000 1) :
    k2_pay6 x (maskCol kp) s
      = Net.gate x (shapeCast S10000 s shapeCasts_S10000x1_S10000) kp := by
  funext j
  unfold k2_pay6 k2_pay5 Net.gate
  pointwise

/-- The head: three dense layers and the logarithm of the softmax. -/
theorem head_eq (z : FVec Ideal S16x256 .f32) (w1 : FVec Ideal S256x128 .f32) (b1 : FVec Ideal S128 .f32) (w2 : FVec Ideal S128x64 .f32)
    (b2 : FVec Ideal S64 .f32) (w3 : FVec Ideal S64x10 .f32) (b3 : FVec Ideal S10 .f32) :
    k12_pay1 z w1 (broadcastInDim S1x128 ![1] bcast_S128_S1x128_1 b1) w2 (broadcastInDim S1x64 ![1] bcast_S64_S1x64_1 b2) w3
      (broadcastInDim S1x10 ![1] bcast_S10_S1x10_1 b3) = Net.logSoftmax (Net.logits z w1 b1 w2 b2 w3 b3) := by
  funext j
  unfold k12_pay1 Net.logSoftmax Net.shifted Net.logits
  pointwise

/-- A product with the reciprocal root of a positive number is the quotient by its root. -/
theorem mul_rsqrt (y s : EReal) (h : 0 < s) : y * Ideal.rsqrt s = Ideal.div y (Ideal.sqrt s) := by
  induction s using EReal.rec with
  | bot => exact absurd h (by simp)
  | top =>
    show y * 0 = Ideal.div y ⊤
    rw [Ideal.div, if_neg (by decide), EReal.inv_top]
  | coe r =>
    have hr : 0 < r := by exact_mod_cast h
    have h1 : ((Real.sqrt r : ℝ) : EReal) ≠ 0 := by exact_mod_cast (Real.sqrt_pos.2 hr).ne'
    rw [show Ideal.sqrt (r : EReal) = ((Real.sqrt r : ℝ) : EReal) from if_neg (not_lt.2 hr.le),
      show Ideal.rsqrt (r : EReal) = (((Real.sqrt r)⁻¹ : ℝ) : EReal) from
        (if_neg (not_lt.2 hr.le)).trans (if_neg hr.ne'), Ideal.div, if_neg h1, EReal.coe_inv]

/-- The score, where the score vector's norm is positive. -/
theorem score_eq (agg : FVec Ideal S10000x128 .f32) (d2 : FVec Ideal S10000x1 .f32) (xw : FVec Ideal S10000x128 .f32)
    (b : FVec Ideal S1x128 .f32) (p : FVec Ideal S128 .f32) (hp : 0 < Net.sqNorm p ValueIdx.ix0) :
    shapeCast S10000 (k1_pay2 agg d2 xw b (broadcastInDim S128x1 ![0] bcast_S128_S128x1_0 p)) shapeCasts_S10000x1_S10000
      = Net.score (Net.combine agg d2 xw b) p := by
  rw [← combine_eq]
  funext j
  have hs : (0 : EReal) < ∑ x, p (ix1 x) * p (ix1 x) := by
    have : Net.sqNorm p ValueIdx.ix0 = ∑ x, p (ix1 x) * p (ix1 x) := by
      unfold Net.sqNorm
      pointwise
    rwa [← this]
  unfold k1_pay2 Net.score Net.sqNorm
  pointwise
  refine congrArg Ideal.tanh ?_
  rw [← mul_rsqrt _ _ hs]
  simp only [Fin.sum_univ_one]
  rfl

/-- Masking by a zero-or-one float and then by membership, or by membership and then by the bit itself, is the same. -/
theorem mask_select (r q : BitVec 1) (u v : EReal) :
    Scalar.select (IntOp.andi (BitVec.ofBool (decide ((0 : EReal) < FloatOps.uitofp (F := Ideal) .f32 r))) q) u v
      = Scalar.select q (Scalar.select r u v) v := by
  have hk : BitVec.ofBool (decide ((0 : EReal) < FloatOps.uitofp (F := Ideal) .f32 r)) = r := by
    rcases BitVec.eq_zero_or_eq_one r with h | h <;> rw [h]
    · show BitVec.ofBool (decide ((0 : EReal) < (((0#1).toNat : ℝ) : EReal))) = 0#1
      simp
    · show BitVec.ofBool (decide ((0 : EReal) < (((1#1).toNat : ℝ) : EReal))) = 1#1
      simp
  rw [hk]
  rcases BitVec.eq_zero_or_eq_one q with h | h <;> rcases BitVec.eq_zero_or_eq_one r with h' | h' <;> rw [h, h'] <;> rfl

/-- The largest value per graph and feature. -/
theorem maxima_eq (batch : IVec S10000 32) (x : FVec Ideal S10000x128 .f32) (kp : IVec S10000 1) (g : Fin 16) (f : Fin 128) :
    rowMax (BitVec.ofNat 32 g) x (k2_pay8 (F := Ideal) (broadcastInDim S10000x1 ![0] bcast_S10000_S10000x1_0 batch)) k2_pay9
      (k2_pay10 (F := Ideal) (maskCol kp)) (ix1 f)
      = Net.maxima batch kp x (ix2 g f) := by
  unfold rowMax k2_pay8 k2_pay9 k2_pay10 k2_pay5 Net.maxima
  pointwise
  refine congrArg (fun h => Finset.fold max _ h Finset.univ) (funext fun n => ?_)
  exact mask_select _ _ _ _

/-- The mean per graph and feature. -/
theorem means_eq (batch : IVec S10000 32) (x : FVec Ideal S10000x128 .f32) (s : FVec Ideal S10000x1 .f32) (kp : IVec S10000 1)
   (j) :
    k2_pay7 (F := Ideal) x (maskCol kp) s
      (broadcastInDim S1x10000 ![1] bcast_S10000_S1x10000_1 batch) j
      = Net.means batch kp (k2_pay6 x (maskCol kp) s) j := by
  unfold k2_pay7 k2_pay5 Net.means
  pointwise
  obtain ⟨g, f, rfl⟩ : ∃ g f, j = ix2 g f := ⟨_, _, eq_ix2 j⟩
  refine (congrArg₂ Ideal.div ?_ ?_)
  · exact (Finset.sum_congr rfl fun n _ => Net.member_mul _ _ _).trans (Net.rowSums_apply batch _ g f).symm
  · exact (Finset.sum_congr rfl fun n _ => Net.member_mul _ _ _).trans (Net.counts_apply batch (uitofp .f32 kp) g).symm

/-- The left half of two arrays side by side. -/
theorem beside_left (A B : FVec Ideal S16x128 .f32) (g : Fin 16) (f : Fin 256) (h : (f : Nat) < 128) :
    concatenate ReferenceIdeal.S16x256 1 [⟨ReferenceIdeal.S16x128, A⟩, ⟨ReferenceIdeal.S16x128, B⟩]
      ReferenceIdeal.Gen.concatenates_S16x128_S16x128_S16x256_d1 (ix2 g f) = A (ix2 g ⟨f, h⟩) := by
  pointwise
  rw [dif_pos h]

/-- The right half of two arrays side by side. -/
theorem beside_right (A B : FVec Ideal S16x128 .f32) (g : Fin 16) (f : Fin 256) (h : ¬(f : Nat) < 128) :
    concatenate ReferenceIdeal.S16x256 1 [⟨ReferenceIdeal.S16x128, A⟩, ⟨ReferenceIdeal.S16x128, B⟩]
      ReferenceIdeal.Gen.concatenates_S16x128_S16x128_S16x256_d1 (ix2 g f)
      = B (ix2 g ⟨(f : Nat) - 128, by have := f.isLt; omega⟩) := by
  pointwise
  rw [dif_neg h]

/-- The whole readout. -/
theorem readout_eq (batch : IVec S10000 32) (x : FVec Ideal S10000x128 .f32) (s : FVec Ideal S10000x1 .f32)
    (kp : IVec S10000 1) :
    readoutK x s (maskCol kp) (broadcastInDim S10000x1 ![0] bcast_S10000_S10000x1_0 batch)
        (broadcastInDim S1x10000 ![1] bcast_S10000_S1x10000_1 batch)
      = Net.readout batch kp (Net.gate x (shapeCast S10000 s shapeCasts_S10000x1_S10000) kp) := by
  rw [← gate_eq]
  funext y
  obtain ⟨g, f, rfl⟩ : ∃ (g : Fin 16) (f : Fin 256), y = ix2 g f := ⟨_, _, eq_ix2 y⟩
  by_cases h : (f : Nat) < 128
  · refine (dif_pos h).trans ((maxima_eq batch _ kp g ⟨f, h⟩).trans ?_)
    exact (beside_left _ _ g f h).symm
  · refine (dif_neg h).trans ((means_eq batch x s kp (ix2 g ⟨f - 128, by omega⟩)).trans ?_)
    exact (beside_right _ _ g f h).symm

end Cert.KernelIdeal.Val

end
-- ==== Proof.Block.lean ====
/-
  One block of the kernel, as its calls and host operations leave it, is one step of the network.
-/
module

public import proofs.«01_k».proof.Proof.Calls

@[expose] public section

set_option maxRecDepth 16384

noncomputable section

namespace Cert.KernelIdeal.Val

open Idealize.ShloMosaic Idealize.ShloMosaic.TcCoe
open Cert.KernelIdeal Cert.KernelIdeal.Gen

/-- The edges that stay, at equal edges and nodes. -/
theorem edges_of {s s' d d' : IVec S320000 32} {l l' : IVec S320000 1} {k k' : IVec S10000 1}
    (hs : s = s') (hd : d = d') (hl : l = l') (hk : k = k') : Net.keepEdges s d l k = Net.keepEdges s' d' l' k' := by
  subst hs hd hl hk; rfl

/-- From what each call and each host operation of a block computes: the features, the nodes alive and the readout are
    those of the network's step, where the score vector's norm is positive. -/
theorem block_eq (batch : IVec S10000 32) (src dst : IVec S320000 32) (W : FVec Ideal S128x128 .f32)
    (b p : FVec Ideal S128 .f32) (S : Net.State Ideal) (hp : 0 < Net.sqNorm p ValueIdx.ix0)
    {xw agg out gx : FVec Ideal S10000x128 .f32} {d2 sc mask : FVec Ideal S10000x1 .f32} {brow : FVec Ideal S1x128 .f32}
    {pcol : FVec Ideal S128x1 .f32} {kp : IVec S10000 1} {rd : FVec Ideal S16x256 .f32}
    {bc : IVec S10000x1 32} {br : IVec S1x10000 32}
    (hxw : xw = k0_pay1 S.x W) (hagg : agg = Net.aggregate src dst S.live xw) (hd2 : d2 = Net.selfWeight dst S.live)
    (hbrow : brow = Net.biasRow b) (hpcol : pcol = broadcastInDim S128x1 ![0] bcast_S128_S128x1_0 p)
    (hout : out = k1_pay1 agg d2 xw brow) (hsc : sc = k1_pay2 agg d2 xw brow pcol)
    (hkp : kp = Net.keep batch S.alive (shapeCast S10000 sc shapeCasts_S10000x1_S10000)) (hmask : mask = maskCol kp)
    (hbc : bc = broadcastInDim S10000x1 ![0] bcast_S10000_S10000x1_0 batch)
    (hbr : br = broadcastInDim S1x10000 ![1] bcast_S10000_S1x10000_1 batch)
    (hgx : gx = k2_pay6 out mask sc) (hrd : rd = readoutK out sc mask bc br) :
    gx = (Net.step batch src dst W b p S).x ∧ kp = (Net.step batch src dst W b p S).alive ∧
      rd = Net.readout batch (Net.step batch src dst W b p S).alive (Net.step batch src dst W b p S).x := by
  have hs : shapeCast S10000 sc shapeCasts_S10000x1_S10000 = Net.score (Net.convolve src dst S.live S.x W b) p := by
    rw [hsc, hpcol, score_eq _ _ _ _ _ hp, hagg, hd2, hbrow, hxw, project_eq]
    rfl
  have ho : out = Net.convolve src dst S.live S.x W b := by
    rw [hout, combine_eq, hagg, hd2, hbrow, hxw, project_eq]
    rfl
  have hk : kp = (Net.step batch src dst W b p S).alive := by
    rw [hkp, hs]
    rfl
  have hg : gx = (Net.step batch src dst W b p S).x := by
    rw [hgx, hmask, gate_eq, hs, ho, hk]
    rfl
  refine ⟨hg, hk, ?_⟩
  rw [hrd, hmask, hbc, hbr, readout_eq, hs, ho, hk]
  rfl

/-- From what each call and each host stretch of a block leaves, and from what lies untouched between them: the
    features, the nodes alive, the edges alive and the readout at the block's end are those of the network's step. The
    same array at different stages has a name for each, and an equation says that it stays. -/
theorem block_of (batch : IVec S10000 32) (src dst : IVec S320000 32) (W : FVec Ideal S128x128 .f32)
    (b p : FVec Ideal S128 .f32) (S : Net.State Ideal) (hp : 0 < Net.sqNorm p ValueIdx.ix0)
    {x xw xw' agg out out' gx gx' : FVec Ideal S10000x128 .f32} {d2 sc sc' mask : FVec Ideal S10000x1 .f32}
    {brow : FVec Ideal S1x128 .f32} {pcol : FVec Ideal S128x1 .f32} {rd rd' : FVec Ideal S16x256 .f32}
    {W₀ : FVec Ideal S128x128 .f32} {b₀ p₀ : FVec Ideal S128 .f32} {src₀ src₁ src₂ dst₀ dst₁ dst₂ : IVec S320000 32}
    {live₀ live₁ live₂ live' : IVec S320000 1} {alive₀ alive₁ alive₂ kp kp' kp'' : IVec S10000 1}
    {batch₁ batch₂ batch₃ batch₄ : IVec S10000 32} {order order' : IVec S10000 32} {sizes sizes' ends : IVec S16 32}
    {bc bc' : IVec S10000x1 32} {br br' : IVec S1x10000 32}
    -- what the block starts from
    (hx : x = S.x) (halive : alive₀ = S.alive) (hlive : live₀ = S.live) (hsrc : src₀ = src) (hdst : dst₀ = dst)
    (hbc : bc = broadcastInDim S10000x1 ![0] bcast_S10000_S10000x1_0 batch)
    (hbr : br = broadcastInDim S1x10000 ![1] bcast_S10000_S1x10000_1 batch)
    -- the projection
    (hxw : xw = k0_pay1 x W₀) (hW : W₀ = W)
    -- the aggregate, and the rows and columns the combination reads
    (hagg : agg = Net.aggregate src₁ dst₁ live₁ xw) (hd2 : d2 = Net.selfWeight dst₁ live₁)
    (hbrow : brow = Net.biasRow b₀) (hpcol : pcol = broadcastInDim S128x1 ![0] bcast_S128_S128x1_0 p₀)
    (hsrc₁ : src₁ = src₀) (hdst₁ : dst₁ = dst₀) (hlive₁ : live₁ = live₀) (hb : b₀ = b) (hp₀ : p₀ = p)
    -- the combination and the scores
    (hout : out = k1_pay1 agg d2 xw' brow) (hsc : sc = k1_pay2 agg d2 xw' brow pcol) (hxw' : xw' = xw)
    -- the choice of nodes
    (horder : order = Net.rankOrder batch₁ alive₁ (shapeCast S10000 sc shapeCasts_S10000x1_S10000))
    (hbatch₁ : batch₁ = batch) (halive₁ : alive₁ = alive₀)
    (hsizes : sizes = Net.graphSizes batch₂) (hbatch₂ : batch₂ = batch)
    (hends : sizes = Net.graphSizes batch₃ → ends = Net.graphEnds batch₃) (hbatch₃ : batch₃ = batch)
    (hkeep : ∀ s, order' = Net.rankOrder (F := Ideal) batch₄ alive₂ s → sizes' = Net.graphSizes batch₄ →
      ends = Net.graphEnds batch₄ → kp = Net.keep batch₄ alive₂ s)
    (hbatch₄ : batch₄ = batch) (halive₂ : alive₂ = alive₀) (horder' : order' = order) (hsizes' : sizes' = sizes)
    -- the gate and the readout
    (hmask : mask = maskCol kp) (hgx : gx = k2_pay6 out' mask sc') (hrd : rd = readoutK out' sc' mask bc' br')
    (hout' : out' = out) (hsc' : sc' = sc) (hbc' : bc' = bc) (hbr' : br' = br)
    -- the edges that stay
    (hedges : live' = Net.keepEdges src₂ dst₂ live₂ kp') (hsrc₂ : src₂ = src₀) (hdst₂ : dst₂ = dst₀)
    (hlive₂ : live₂ = live₀) (hkp' : kp' = kp)
    -- the block's end
    (hgx' : gx' = gx) (hkp'' : kp'' = kp) (hrd' : rd' = rd) :
    gx' = (Net.step batch src dst W b p S).x ∧ kp'' = (Net.step batch src dst W b p S).alive ∧
      live' = (Net.step batch src dst W b p S).live ∧
      rd' = Net.readout batch (Net.step batch src dst W b p S).alive (Net.step batch src dst W b p S).x := by
  obtain ⟨x₀, a₀, l₀⟩ := S
  subst hx halive hlive hsrc hdst hgx' hkp'' hrd' hkp' hsrc₂ hdst₂ hlive₂ hout' hsc' hbc' hbr' horder' hsizes'
    hbatch₄ halive₂ hbatch₃ hbatch₂ hbatch₁ halive₁ hxw' hsrc₁ hdst₁ hlive₁ hb hp₀ hW
  obtain ⟨g, k, r⟩ := block_eq _ _ _ _ _ _ ⟨x, alive₁, live₁⟩ hp hxw hagg hd2 hbrow hpcol hout hsc
      (hkeep _ horder hsizes (hends hsizes)) hmask
    hbc hbr hgx hrd
  exact ⟨g, k, hedges.trans (edges_of rfl rfl rfl k), r⟩

end Cert.KernelIdeal.Val

end
-- ==== Proof.Host.lean ====
/-
  What the kernel's host operations leave between its calls, at any contents before them: the stages of `Net.lean`.
-/
module

public import proofs.«01_k».proof.Proof.Net
public import proofs.«01_k».proof.Proof.Gen.KernelIdeal.Frame
public import Idealize.ShloMosaic.Lib.StableHlo.RunRead

@[expose] public section

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F]

/-- The contents of one array. -/
abbrev at_ (V : Valuation τ sig (Elt F)) (r : Ref sig .tc) := V (Proc.devRef .tc r)

variable (V : Valuation τ sig (Elt F))

/-! ## Before the first call -/

/-- The edges' sources. -/
theorem ops0_src : after hostOps0 V (Proc.devRef .tc main_v1) = Net.srcOf (at_ V main_arg1) := by
  after_reads_simp; rfl
/-- The edges' destinations. -/
theorem ops0_dst : after hostOps0 V (Proc.devRef .tc main_v3) = Net.dstOf (at_ V main_arg1) := by
  after_reads_simp; rfl
/-- Every node is alive. -/
theorem ops0_nodes : after hostOps0 V (Proc.devRef .tc main_v6) = Net.allNodes := by
  after_reads_simp; rfl
/-- Every edge is live. -/
theorem ops0_edges : after hostOps0 V (Proc.devRef .tc main_v7) = Net.allEdges := by
  after_reads_simp; rfl
/-- The graph numbers as a column. -/
theorem ops0_batchCol : after hostOps0 V (Proc.devRef .tc main_v4)
    = broadcastInDim S10000x1 ![0] bcast_S10000_S10000x1_0 (at_ V main_arg2) := by
  after_reads_simp
/-- The graph numbers as a row. -/
theorem ops0_batchRow : after hostOps0 V (Proc.devRef .tc main_v5)
    = broadcastInDim S1x10000 ![1] bcast_S10000_S1x10000_1 (at_ V main_arg2) := by
  after_reads_simp

/-! ## Block 1 -/

/-- The weighted sum of the neighbours' projected features. -/
theorem ops1_agg : after hostOps1 V (Proc.devRef .tc main_v55)
    = Net.aggregate (at_ V main_v1) (at_ V main_v3) (at_ V main_v7) (at_ V main_v8) := by
  after_reads_simp; rfl
/-- The weight of a node's own features. -/
theorem ops1_self : after hostOps1 V (Proc.devRef .tc main_v57)
    = Net.selfWeight (at_ V main_v3) (at_ V main_v7) := by
  after_reads_simp; rfl
/-- The bias as a row. -/
theorem ops1_bias : after hostOps1 V (Proc.devRef .tc main_v58) = Net.biasRow (at_ V main_arg4) := by
  after_reads_simp; rfl
/-- The score vector as a column. -/
theorem ops1_p : after hostOps1 V (Proc.devRef .tc main_v59)
    = broadcastInDim S128x1 ![0] bcast_S128_S128x1_0 (at_ V main_arg5) := by
  after_reads_simp
/-- The nodes in the order of graph and falling score. -/
theorem ops2_order : after hostOps2_3 (after hostOps2_2 (after hostOps2_1 (after hostOps2 V))) (Proc.devRef .tc main_v64)
    = Net.rankOrder (at_ V main_arg2) (at_ V main_v6) (shapeCast S10000 (at_ V main_v60_1) shapeCasts_S10000x1_S10000) := by
  after_reads_simp; rfl
/-- The number of nodes of each graph. -/
theorem ops2_sizes : after hostOps2_4 V (Proc.devRef .tc main_v68) = Net.graphSizes (at_ V main_arg2) := by
  after_reads_simp; rfl
/-- The running sums of those numbers. -/
theorem ops2_ends (h : at_ V main_v68 = Net.graphSizes (at_ V main_arg2)) :
    after hostOps2_5 V (Proc.devRef .tc main_v69) = Net.graphEnds (at_ V main_arg2) := by
  rw [Net.graphEnds, ← h]
  after_reads_simp
  simp only [TRef.toBuf, TRef.ofBuf]
  refine (cast_eq rfl _).trans ?_
  congr 1
/-- Each node's place within its graph. -/
theorem ops2_rank (h68 : at_ V main_v68 = Net.graphSizes (at_ V main_arg2))
    (h69 : at_ V main_v69 = Net.graphEnds (at_ V main_arg2)) :
    after hostOps2_6 V (Proc.devRef .tc main_v94) = Net.rankOf (at_ V main_arg2) (at_ V main_v64) := by
  after_reads_simp
  rw [show V (Proc.devRef .tc main_v68) = _ from h68, show V (Proc.devRef .tc main_v69) = _ from h69]
  rfl
/-- The nodes that stay: those alive whose place is below their graph's quota. -/
theorem ops2_keep (s : FVec F S10000 .f32) (h64 : at_ V main_v64 = Net.rankOrder (at_ V main_arg2) (at_ V main_v6) s)
    (h68 : at_ V main_v68 = Net.graphSizes (at_ V main_arg2)) (h69 : at_ V main_v69 = Net.graphEnds (at_ V main_arg2)) :
    after hostOps2_6 V (Proc.devRef .tc main_v112) = Net.keep (at_ V main_arg2) (at_ V main_v6) s := by
  rw [Net.keep, ← h64, ← ops2_rank V h68 h69]
  after_reads_simp; rfl
/-- Those nodes as a column of zeros and ones. -/
theorem ops2_mask : after hostOps2_6 V (Proc.devRef .tc main_v114)
    = broadcastInDim S10000x1 ![0] bcast_S10000_S10000x1_0 (uitofp .f32 (after hostOps2_6 V (Proc.devRef .tc main_v112))) := by
  after_reads_simp
/-- The edges that stay. -/
theorem ops3_edges : after hostOps3 V (Proc.devRef .tc main_v131)
    = Net.keepEdges (at_ V main_v1) (at_ V main_v3) (at_ V main_v7) (at_ V main_v112) := by
  after_reads_simp; rfl

/-! ## Block 2 -/

/-- The weighted sum of the neighbours' projected features. -/
theorem ops4_agg : after hostOps4 V (Proc.devRef .tc main_v179)
    = Net.aggregate (at_ V main_v1) (at_ V main_v3) (at_ V main_v131) (at_ V main_v132) := by
  after_reads_simp; rfl
/-- The weight of a node's own features. -/
theorem ops4_self : after hostOps4 V (Proc.devRef .tc main_v181)
    = Net.selfWeight (at_ V main_v3) (at_ V main_v131) := by
  after_reads_simp; rfl
/-- The bias as a row. -/
theorem ops4_bias : after hostOps4 V (Proc.devRef .tc main_v182) = Net.biasRow (at_ V main_arg7) := by
  after_reads_simp; rfl
/-- The score vector as a column. -/
theorem ops4_p : after hostOps4 V (Proc.devRef .tc main_v183)
    = broadcastInDim S128x1 ![0] bcast_S128_S128x1_0 (at_ V main_arg8) := by
  after_reads_simp
/-- The nodes in the order of graph and falling score. -/
theorem ops5_order : after hostOps5_3 (after hostOps5_2 (after hostOps5_1 (after hostOps5 V))) (Proc.devRef .tc main_v188)
    = Net.rankOrder (at_ V main_arg2) (at_ V main_v112) (shapeCast S10000 (at_ V main_v184_1) shapeCasts_S10000x1_S10000) := by
  after_reads_simp; rfl
/-- The number of nodes of each graph. -/
theorem ops5_sizes : after hostOps5_4 V (Proc.devRef .tc main_v192) = Net.graphSizes (at_ V main_arg2) := by
  after_reads_simp; rfl
/-- The running sums of those numbers. -/
theorem ops5_ends (h : at_ V main_v192 = Net.graphSizes (at_ V main_arg2)) :
    after hostOps5_5 V (Proc.devRef .tc main_v193) = Net.graphEnds (at_ V main_arg2) := by
  rw [Net.graphEnds, ← h]
  after_reads_simp
  simp only [TRef.toBuf, TRef.ofBuf]
  refine (cast_eq rfl _).trans ?_
  congr 1
/-- Each node's place within its graph. -/
theorem ops5_rank (h68 : at_ V main_v192 = Net.graphSizes (at_ V main_arg2))
    (h69 : at_ V main_v193 = Net.graphEnds (at_ V main_arg2)) :
    after hostOps5_6 V (Proc.devRef .tc main_v218) = Net.rankOf (at_ V main_arg2) (at_ V main_v188) := by
  after_reads_simp
  rw [show V (Proc.devRef .tc main_v192) = _ from h68, show V (Proc.devRef .tc main_v193) = _ from h69]
  rfl
/-- The nodes that stay: those alive whose place is below their graph's quota. -/
theorem ops5_keep (s : FVec F S10000 .f32) (h64 : at_ V main_v188 = Net.rankOrder (at_ V main_arg2) (at_ V main_v112) s)
    (h68 : at_ V main_v192 = Net.graphSizes (at_ V main_arg2)) (h69 : at_ V main_v193 = Net.graphEnds (at_ V main_arg2)) :
    after hostOps5_6 V (Proc.devRef .tc main_v236) = Net.keep (at_ V main_arg2) (at_ V main_v112) s := by
  rw [Net.keep, ← h64, ← ops5_rank V h68 h69]
  after_reads_simp; rfl
/-- Those nodes as a column of zeros and ones. -/
theorem ops5_mask : after hostOps5_6 V (Proc.devRef .tc main_v238)
    = broadcastInDim S10000x1 ![0] bcast_S10000_S10000x1_0 (uitofp .f32 (after hostOps5_6 V (Proc.devRef .tc main_v236))) := by
  after_reads_simp
/-- The edges that stay. -/
theorem ops6_edges : after hostOps6 V (Proc.devRef .tc main_v255)
    = Net.keepEdges (at_ V main_v1) (at_ V main_v3) (at_ V main_v131) (at_ V main_v236) := by
  after_reads_simp; rfl

/-! ## Block 3 -/

/-- The weighted sum of the neighbours' projected features. -/
theorem ops7_agg : after hostOps7 V (Proc.devRef .tc main_v303)
    = Net.aggregate (at_ V main_v1) (at_ V main_v3) (at_ V main_v255) (at_ V main_v256) := by
  after_reads_simp; rfl
/-- The weight of a node's own features. -/
theorem ops7_self : after hostOps7 V (Proc.devRef .tc main_v305)
    = Net.selfWeight (at_ V main_v3) (at_ V main_v255) := by
  after_reads_simp; rfl
/-- The bias as a row. -/
theorem ops7_bias : after hostOps7 V (Proc.devRef .tc main_v306) = Net.biasRow (at_ V main_arg10) := by
  after_reads_simp; rfl
/-- The score vector as a column. -/
theorem ops7_p : after hostOps7 V (Proc.devRef .tc main_v307)
    = broadcastInDim S128x1 ![0] bcast_S128_S128x1_0 (at_ V main_arg11) := by
  after_reads_simp
/-- The nodes in the order of graph and falling score. -/
theorem ops8_order : after hostOps8_3 (after hostOps8_2 (after hostOps8_1 (after hostOps8 V))) (Proc.devRef .tc main_v312)
    = Net.rankOrder (at_ V main_arg2) (at_ V main_v236) (shapeCast S10000 (at_ V main_v308_1) shapeCasts_S10000x1_S10000) := by
  after_reads_simp; rfl
/-- The number of nodes of each graph. -/
theorem ops8_sizes : after hostOps8_4 V (Proc.devRef .tc main_v316) = Net.graphSizes (at_ V main_arg2) := by
  after_reads_simp; rfl
/-- The running sums of those numbers. -/
theorem ops8_ends (h : at_ V main_v316 = Net.graphSizes (at_ V main_arg2)) :
    after hostOps8_5 V (Proc.devRef .tc main_v317) = Net.graphEnds (at_ V main_arg2) := by
  rw [Net.graphEnds, ← h]
  after_reads_simp
  simp only [TRef.toBuf, TRef.ofBuf]
  refine (cast_eq rfl _).trans ?_
  congr 1
/-- Each node's place within its graph. -/
theorem ops8_rank (h68 : at_ V main_v316 = Net.graphSizes (at_ V main_arg2))
    (h69 : at_ V main_v317 = Net.graphEnds (at_ V main_arg2)) :
    after hostOps8_6 V (Proc.devRef .tc main_v342) = Net.rankOf (at_ V main_arg2) (at_ V main_v312) := by
  after_reads_simp
  rw [show V (Proc.devRef .tc main_v316) = _ from h68, show V (Proc.devRef .tc main_v317) = _ from h69]
  rfl
/-- The nodes that stay: those alive whose place is below their graph's quota. -/
theorem ops8_keep (s : FVec F S10000 .f32) (h64 : at_ V main_v312 = Net.rankOrder (at_ V main_arg2) (at_ V main_v236) s)
    (h68 : at_ V main_v316 = Net.graphSizes (at_ V main_arg2)) (h69 : at_ V main_v317 = Net.graphEnds (at_ V main_arg2)) :
    after hostOps8_6 V (Proc.devRef .tc main_v360) = Net.keep (at_ V main_arg2) (at_ V main_v236) s := by
  rw [Net.keep, ← h64, ← ops8_rank V h68 h69]
  after_reads_simp; rfl
/-- Those nodes as a column of zeros and ones. -/
theorem ops8_mask : after hostOps8_6 V (Proc.devRef .tc main_v362)
    = broadcastInDim S10000x1 ![0] bcast_S10000_S10000x1_0 (uitofp .f32 (after hostOps8_6 V (Proc.devRef .tc main_v360))) := by
  after_reads_simp
/-- The edges that stay. -/
theorem ops9_edges : after hostOps9 V (Proc.devRef .tc main_v379)
    = Net.keepEdges (at_ V main_v1) (at_ V main_v3) (at_ V main_v255) (at_ V main_v360) := by
  after_reads_simp; rfl

/-! ## Block 4 -/

/-- The weighted sum of the neighbours' projected features. -/
theorem ops10_agg : after hostOps10 V (Proc.devRef .tc main_v427)
    = Net.aggregate (at_ V main_v1) (at_ V main_v3) (at_ V main_v379) (at_ V main_v380) := by
  after_reads_simp; rfl
/-- The weight of a node's own features. -/
theorem ops10_self : after hostOps10 V (Proc.devRef .tc main_v429)
    = Net.selfWeight (at_ V main_v3) (at_ V main_v379) := by
  after_reads_simp; rfl
/-- The bias as a row. -/
theorem ops10_bias : after hostOps10 V (Proc.devRef .tc main_v430) = Net.biasRow (at_ V main_arg13) := by
  after_reads_simp; rfl
/-- The score vector as a column. -/
theorem ops10_p : after hostOps10 V (Proc.devRef .tc main_v431)
    = broadcastInDim S128x1 ![0] bcast_S128_S128x1_0 (at_ V main_arg14) := by
  after_reads_simp
/-- The nodes in the order of graph and falling score. -/
theorem ops11_order : after hostOps11_3 (after hostOps11_2 (after hostOps11_1 (after hostOps11 V))) (Proc.devRef .tc main_v436)
    = Net.rankOrder (at_ V main_arg2) (at_ V main_v360) (shapeCast S10000 (at_ V main_v432_1) shapeCasts_S10000x1_S10000) := by
  after_reads_simp; rfl
/-- The number of nodes of each graph. -/
theorem ops11_sizes : after hostOps11_4 V (Proc.devRef .tc main_v440) = Net.graphSizes (at_ V main_arg2) := by
  after_reads_simp; rfl
/-- The running sums of those numbers. -/
theorem ops11_ends (h : at_ V main_v440 = Net.graphSizes (at_ V main_arg2)) :
    after hostOps11_5 V (Proc.devRef .tc main_v441) = Net.graphEnds (at_ V main_arg2) := by
  rw [Net.graphEnds, ← h]
  after_reads_simp
  simp only [TRef.toBuf, TRef.ofBuf]
  refine (cast_eq rfl _).trans ?_
  congr 1
/-- Each node's place within its graph. -/
theorem ops11_rank (h68 : at_ V main_v440 = Net.graphSizes (at_ V main_arg2))
    (h69 : at_ V main_v441 = Net.graphEnds (at_ V main_arg2)) :
    after hostOps11_6 V (Proc.devRef .tc main_v466) = Net.rankOf (at_ V main_arg2) (at_ V main_v436) := by
  after_reads_simp
  rw [show V (Proc.devRef .tc main_v440) = _ from h68, show V (Proc.devRef .tc main_v441) = _ from h69]
  rfl
/-- The nodes that stay: those alive whose place is below their graph's quota. -/
theorem ops11_keep (s : FVec F S10000 .f32) (h64 : at_ V main_v436 = Net.rankOrder (at_ V main_arg2) (at_ V main_v360) s)
    (h68 : at_ V main_v440 = Net.graphSizes (at_ V main_arg2)) (h69 : at_ V main_v441 = Net.graphEnds (at_ V main_arg2)) :
    after hostOps11_6 V (Proc.devRef .tc main_v484) = Net.keep (at_ V main_arg2) (at_ V main_v360) s := by
  rw [Net.keep, ← h64, ← ops11_rank V h68 h69]
  after_reads_simp; rfl
/-- Those nodes as a column of zeros and ones. -/
theorem ops11_mask : after hostOps11_6 V (Proc.devRef .tc main_v486)
    = broadcastInDim S10000x1 ![0] bcast_S10000_S10000x1_0 (uitofp .f32 (after hostOps11_6 V (Proc.devRef .tc main_v484))) := by
  after_reads_simp

/-! ## Before the last call -/

/-- The sum of the four readouts. -/
theorem ops12_sum : after hostOps12 V (Proc.devRef .tc main_v506)
    = addf (addf (addf (at_ V main_v115_1) (at_ V main_v239_1)) (at_ V main_v363_1)) (at_ V main_v487_1) := by
  after_reads_simp
/-- The first layer's bias as a row. -/
theorem ops12_b1 : after hostOps12 V (Proc.devRef .tc main_v507)
    = broadcastInDim S1x128 ![1] bcast_S128_S1x128_1 (at_ V main_arg16) := by
  after_reads_simp
/-- The second layer's bias as a row. -/
theorem ops12_b2 : after hostOps12 V (Proc.devRef .tc main_v508)
    = broadcastInDim S1x64 ![1] bcast_S64_S1x64_1 (at_ V main_arg18) := by
  after_reads_simp
/-- The third layer's bias as a row. -/
theorem ops12_b3 : after hostOps12 V (Proc.devRef .tc main_v509)
    = broadcastInDim S1x10 ![1] bcast_S10_S1x10_1 (at_ V main_arg20) := by
  after_reads_simp

end Cert.KernelIdeal.Val

end
-- ==== Proof.Stays.lean ====
/-
  The kernel's run as a row of stages, one after each call and each stretch of host operations, and the rule by which an
  array keeps its contents from one stage to a later one.
-/
module

public import proofs.«01_k».proof.Proof.Gen.KernelIdeal.Frame

@[expose] public section

set_option maxRecDepth 16384

noncomputable section

namespace Cert.KernelIdeal.Val

open Idealize.ShloMosaic Idealize.ShloMosaic.TcCoe Idealize.SL.Sem
open Cert.KernelIdeal Cert.KernelIdeal.Gen

/-- For each step of the run, whether it leaves the array `r` alone: a host stretch does not write it, a call has it for
    none of its outputs. -/
def spared (r : Ref sig .tc) : List Bool := [
  decide (r ∉ hostOps0_W),
  decide (∀ w : Fin cfg0.W, Pipeline.arrRef spec0 w = r → (cfg0.win w).isOut = false),
  decide (r ∉ hostOps1_W),
  decide (∀ w : Fin cfg1.W, Pipeline.arrRef spec1 w = r → (cfg1.win w).isOut = false),
  decide (r ∉ hostOps2_W),
  decide (r ∉ hostOps2_1_W),
  decide (r ∉ hostOps2_2_W),
  decide (r ∉ hostOps2_3_W),
  decide (r ∉ hostOps2_4_W),
  decide (r ∉ hostOps2_5_W),
  decide (r ∉ hostOps2_6_W),
  decide (∀ w : Fin cfg2.W, Pipeline.arrRef spec2 w = r → (cfg2.win w).isOut = false),
  decide (r ∉ hostOps3_W),
  decide (∀ w : Fin cfg3.W, Pipeline.arrRef spec3 w = r → (cfg3.win w).isOut = false),
  decide (r ∉ hostOps4_W),
  decide (∀ w : Fin cfg4.W, Pipeline.arrRef spec4 w = r → (cfg4.win w).isOut = false),
  decide (r ∉ hostOps5_W),
  decide (r ∉ hostOps5_1_W),
  decide (r ∉ hostOps5_2_W),
  decide (r ∉ hostOps5_3_W),
  decide (r ∉ hostOps5_4_W),
  decide (r ∉ hostOps5_5_W),
  decide (r ∉ hostOps5_6_W),
  decide (∀ w : Fin cfg5.W, Pipeline.arrRef spec5 w = r → (cfg5.win w).isOut = false),
  decide (r ∉ hostOps6_W),
  decide (∀ w : Fin cfg6.W, Pipeline.arrRef spec6 w = r → (cfg6.win w).isOut = false),
  decide (r ∉ hostOps7_W),
  decide (∀ w : Fin cfg7.W, Pipeline.arrRef spec7 w = r → (cfg7.win w).isOut = false),
  decide (r ∉ hostOps8_W),
  decide (r ∉ hostOps8_1_W),
  decide (r ∉ hostOps8_2_W),
  decide (r ∉ hostOps8_3_W),
  decide (r ∉ hostOps8_4_W),
  decide (r ∉ hostOps8_5_W),
  decide (r ∉ hostOps8_6_W),
  decide (∀ w : Fin cfg8.W, Pipeline.arrRef spec8 w = r → (cfg8.win w).isOut = false),
  decide (r ∉ hostOps9_W),
  decide (∀ w : Fin cfg9.W, Pipeline.arrRef spec9 w = r → (cfg9.win w).isOut = false),
  decide (r ∉ hostOps10_W),
  decide (∀ w : Fin cfg10.W, Pipeline.arrRef spec10 w = r → (cfg10.win w).isOut = false),
  decide (r ∉ hostOps11_W),
  decide (r ∉ hostOps11_1_W),
  decide (r ∉ hostOps11_2_W),
  decide (r ∉ hostOps11_3_W),
  decide (r ∉ hostOps11_4_W),
  decide (r ∉ hostOps11_5_W),
  decide (r ∉ hostOps11_6_W),
  decide (∀ w : Fin cfg11.W, Pipeline.arrRef spec11 w = r → (cfg11.win w).isOut = false),
  decide (r ∉ hostOps12_W),
  decide (∀ w : Fin cfg12.W, Pipeline.arrRef spec12 w = r → (cfg12.win w).isOut = false)]

variable {F : FTy → Type} [FloatOps F]

/-- The member of a row at a place, the first being apart from the rest. -/
def nth {α : Type _} : Nat → α → List α → α
  | 0, a, _ => a
  | _ + 1, a, [] => a
  | k + 1, _, b :: l => nth k b l

/-- Every step of a row of contents that is marked so keeps the array `r`. -/
inductive Keeps (r : Ref sig .tc) : Valuation τ sig (Elt F) → List Bool → List (Valuation τ sig (Elt F)) → Prop
  | nil (V) : Keeps r V [] []
  | cons {V V' b bs Vs} (h : b = true → V' (Proc.devRef .tc r) = V (Proc.devRef .tc r)) (t : Keeps r V' bs Vs) :
    Keeps r V (b :: bs) (V' :: Vs)

/-- Where the first `n` steps of such a row are marked, its contents `n` steps on are the first ones. -/
theorem keeps_first (r : Ref sig .tc) : ∀ (n : Nat) {V : Valuation τ sig (Elt F)} {bs : List Bool}
    {Vs : List (Valuation τ sig (Elt F))}, Keeps r V bs Vs → (bs.take n).all id = true →
    nth n V Vs (Proc.devRef .tc r) = V (Proc.devRef .tc r)
  | 0, _, _, _, _, _ => rfl
  | _ + 1, _, _, _, .nil _, _ => rfl
  | n + 1, _, _, _, .cons h t, hb => by
    rw [List.take_succ_cons, List.all_cons, Bool.and_eq_true] at hb
    exact (keeps_first r n t hb.2).trans (h hb.1)

/-- Where the `n` steps after the first `i` are marked, the contents after them are those before them. -/
theorem keeps_from (r : Ref sig .tc) (n : Nat) : ∀ (i : Nat) {V : Valuation τ sig (Elt F)} {bs : List Bool}
    {Vs : List (Valuation τ sig (Elt F))}, Keeps r V bs Vs → ((bs.drop i).take n).all id = true →
    nth (i + n) V Vs (Proc.devRef .tc r) = nth i V Vs (Proc.devRef .tc r)
  | 0, _, _, _, h, hb => by
    rw [Nat.zero_add]
    exact keeps_first r n h hb
  | i + 1, _, _, _, .nil _, _ => by
    rw [Nat.add_right_comm]
    rfl
  | i + 1, _, _, _, .cons _ t, hb => by
    rw [Nat.add_right_comm]
    exact keeps_from r n i t hb

variable (m : (ℓ : Loc nD τ sig) → Buf (Elt F) ℓ) (ρ : Dev nD → PrngReg) (c : Dev nD)

/-- The contents of a device's arrays after each call and host stretch. -/
def stages : List (Valuation τ sig (Elt F)) := [
  W1 m ρ c, W2 m ρ c, W3 m ρ c, W4 m ρ c, W5 m ρ c, W6 m ρ c, W7 m ρ c, W8 m ρ c,
  W9 m ρ c, W10 m ρ c, W11 m ρ c, W12 m ρ c, W13 m ρ c, W14 m ρ c, W15 m ρ c, W16 m ρ c,
  W17 m ρ c, W18 m ρ c, W19 m ρ c, W20 m ρ c, W21 m ρ c, W22 m ρ c, W23 m ρ c, W24 m ρ c,
  W25 m ρ c, W26 m ρ c, W27 m ρ c, W28 m ρ c, W29 m ρ c, W30 m ρ c, W31 m ρ c, W32 m ρ c,
  W33 m ρ c, W34 m ρ c, W35 m ρ c, W36 m ρ c, W37 m ρ c, W38 m ρ c, W39 m ρ c, W40 m ρ c,
  W41 m ρ c, W42 m ρ c, W43 m ρ c, W44 m ρ c, W45 m ρ c, W46 m ρ c, W47 m ρ c, W48 m ρ c,
  W49 m ρ c, W50 m ρ c]

/-- Each step keeps the arrays it leaves alone. -/
theorem stages_keep (r : Ref sig .tc) : Keeps r (W0 m ρ c) (spared r) (stages m ρ c) :=
  .cons (fun h => W1_of m ρ c r (of_decide_eq_true h)) <|
  .cons (fun h => W2_of m ρ c r (of_decide_eq_true h)) <|
  .cons (fun h => W3_of m ρ c r (of_decide_eq_true h)) <|
  .cons (fun h => W4_of m ρ c r (of_decide_eq_true h)) <|
  .cons (fun h => W5_of m ρ c r (of_decide_eq_true h)) <|
  .cons (fun h => W6_of m ρ c r (of_decide_eq_true h)) <|
  .cons (fun h => W7_of m ρ c r (of_decide_eq_true h)) <|
  .cons (fun h => W8_of m ρ c r (of_decide_eq_true h)) <|
  .cons (fun h => W9_of m ρ c r (of_decide_eq_true h)) <|
  .cons (fun h => W10_of m ρ c r (of_decide_eq_true h)) <|
  .cons (fun h => W11_of m ρ c r (of_decide_eq_true h)) <|
  .cons (fun h => W12_of m ρ c r (of_decide_eq_true h)) <|
  .cons (fun h => W13_of m ρ c r (of_decide_eq_true h)) <|
  .cons (fun h => W14_of m ρ c r (of_decide_eq_true h)) <|
  .cons (fun h => W15_of m ρ c r (of_decide_eq_true h)) <|
  .cons (fun h => W16_of m ρ c r (of_decide_eq_true h)) <|
  .cons (fun h => W17_of m ρ c r (of_decide_eq_true h)) <|
  .cons (fun h => W18_of m ρ c r (of_decide_eq_true h)) <|
  .cons (fun h => W19_of m ρ c r (of_decide_eq_true h)) <|
  .cons (fun h => W20_of m ρ c r (of_decide_eq_true h)) <|
  .cons (fun h => W21_of m ρ c r (of_decide_eq_true h)) <|
  .cons (fun h => W22_of m ρ c r (of_decide_eq_true h)) <|
  .cons (fun h => W23_of m ρ c r (of_decide_eq_true h)) <|
  .cons (fun h => W24_of m ρ c r (of_decide_eq_true h)) <|
  .cons (fun h => W25_of m ρ c r (of_decide_eq_true h)) <|
  .cons (fun h => W26_of m ρ c r (of_decide_eq_true h)) <|
  .cons (fun h => W27_of m ρ c r (of_decide_eq_true h)) <|
  .cons (fun h => W28_of m ρ c r (of_decide_eq_true h)) <|
  .cons (fun h => W29_of m ρ c r (of_decide_eq_true h)) <|
  .cons (fun h => W30_of m ρ c r (of_decide_eq_true h)) <|
  .cons (fun h => W31_of m ρ c r (of_decide_eq_true h)) <|
  .cons (fun h => W32_of m ρ c r (of_decide_eq_true h)) <|
  .cons (fun h => W33_of m ρ c r (of_decide_eq_true h)) <|
  .cons (fun h => W34_of m ρ c r (of_decide_eq_true h)) <|
  .cons (fun h => W35_of m ρ c r (of_decide_eq_true h)) <|
  .cons (fun h => W36_of m ρ c r (of_decide_eq_true h)) <|
  .cons (fun h => W37_of m ρ c r (of_decide_eq_true h)) <|
  .cons (fun h => W38_of m ρ c r (of_decide_eq_true h)) <|
  .cons (fun h => W39_of m ρ c r (of_decide_eq_true h)) <|
  .cons (fun h => W40_of m ρ c r (of_decide_eq_true h)) <|
  .cons (fun h => W41_of m ρ c r (of_decide_eq_true h)) <|
  .cons (fun h => W42_of m ρ c r (of_decide_eq_true h)) <|
  .cons (fun h => W43_of m ρ c r (of_decide_eq_true h)) <|
  .cons (fun h => W44_of m ρ c r (of_decide_eq_true h)) <|
  .cons (fun h => W45_of m ρ c r (of_decide_eq_true h)) <|
  .cons (fun h => W46_of m ρ c r (of_decide_eq_true h)) <|
  .cons (fun h => W47_of m ρ c r (of_decide_eq_true h)) <|
  .cons (fun h => W48_of m ρ c r (of_decide_eq_true h)) <|
  .cons (fun h => W49_of m ρ c r (of_decide_eq_true h)) <|
  .cons (fun h => W50_of m ρ c r (of_decide_eq_true h)) <|
  .nil _

/-- An array that every one of the `n` steps after stage `i` leaves alone keeps its contents through them. -/
theorem stays (i n : Nat) (r : Ref sig .tc) {V V' : Valuation τ sig (Elt F)}
    (h : (((spared r).drop i).take n).all id = true := by decide +kernel)
    (hV : nth i (W0 m ρ c) (stages m ρ c) = V := by rfl) (hV' : nth (i + n) (W0 m ρ c) (stages m ρ c) = V' := by rfl) :
    V' (Proc.devRef .tc r) = V (Proc.devRef .tc r) := by
  subst hV hV'
  exact keeps_from r n i (stages_keep m ρ c r) h

end Cert.KernelIdeal.Val

end
-- ==== Proof.Blocks.lean ====
/-
  The kernel's four blocks: what the calls and host operations of each leave is one step of the network. Each is an
  instance of `block_of`: its facts are what the block's calls and host stretches compute, and that the arrays they read
  stay as they are until they are read.
-/
module

public import proofs.«01_k».proof.Proof.Block
public import proofs.«01_k».proof.Proof.Host
public import proofs.«01_k».proof.Proof.Stays

@[expose] public section

set_option maxRecDepth 16384
set_option maxHeartbeats 2000000

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The contents of an argument. -/
abbrev arg (r : Ref sig .tc) := m ((c : Thread nD τ).loc r)

/-- Block 1 takes the network's step. -/
theorem block1 (src dst : IVec S320000 32) (S : Net.State Ideal)
    (hp : 0 < Net.sqNorm (F := Ideal) (arg m c main_arg5) ValueIdx.ix0)
    (hsrc : W1 m ρ c (Proc.devRef .tc main_v1) = src) (hdst : W1 m ρ c (Proc.devRef .tc main_v3) = dst)
    (hbc : W1 m ρ c (Proc.devRef .tc main_v4) = broadcastInDim S10000x1 ![0] bcast_S10000_S10000x1_0
      (arg m c main_arg2))
    (hbr : W1 m ρ c (Proc.devRef .tc main_v5) = broadcastInDim S1x10000 ![1] bcast_S10000_S1x10000_1
      (arg m c main_arg2))
    (hx : W1 m ρ c (Proc.devRef .tc main_arg0) = S.x) (halive : W1 m ρ c (Proc.devRef .tc main_v6) = S.alive)
    (hlive : W1 m ρ c (Proc.devRef .tc main_v7) = S.live) :
    let T := Net.step (arg m c main_arg2) src dst (arg m c main_arg3) (arg m c main_arg4) (arg m c main_arg5) S
    W13 m ρ c (Proc.devRef .tc main_v115_0) = T.x ∧ W13 m ρ c (Proc.devRef .tc main_v112) = T.alive ∧
      W13 m ρ c (Proc.devRef .tc main_v131) = T.live ∧
      W13 m ρ c (Proc.devRef .tc main_v115_1) = Net.readout (arg m c main_arg2) T.alive T.x :=
  block_of (arg m c main_arg2) src dst (arg m c main_arg3) (arg m c main_arg4) (arg m c main_arg5) S hp
    hx halive hlive hsrc hdst hbc hbr
    ((W2_arr m ρ c 2).trans (region0 (V1 m ρ) c)) (W1_args m ρ c main_arg3 (by decide))
    (ops1_agg (W2 m ρ c)) (ops1_self (W2 m ρ c)) (ops1_bias (W2 m ρ c)) (ops1_p (W2 m ρ c))
    (stays m ρ c 1 1 main_v1) (stays m ρ c 1 1 main_v3) (stays m ρ c 1 1 main_v7) (W2_args m ρ c main_arg4 (by decide))
    (W2_args m ρ c main_arg5 (by decide))
    ((W4_arr m ρ c 5).trans (region1_out (V3 m ρ) c)) ((W4_arr m ρ c 6).trans (region1_score (V3 m ρ) c))
    (stays m ρ c 2 1 main_v8)
    (ops2_order (W4 m ρ c)) (W4_args m ρ c main_arg2 (by decide)) (stays m ρ c 1 3 main_v6)
    (ops2_sizes (W8 m ρ c)) (W8_args m ρ c main_arg2 (by decide))
    (ops2_ends (W9 m ρ c)) (W9_args m ρ c main_arg2 (by decide))
    (ops2_keep (W10 m ρ c)) (W10_args m ρ c main_arg2 (by decide)) (stays m ρ c 1 9 main_v6) (stays m ρ c 8 2 main_v64)
    (stays m ρ c 9 1 main_v68)
    (ops2_mask (W10 m ρ c)) ((W12_arr m ρ c 5).trans (region2_gate (V11 m ρ) c))
    ((W12_arr m ρ c 6).trans (region2_readout (V11 m ρ) c))
    (stays m ρ c 4 7 main_v60_0) (stays m ρ c 4 7 main_v60_1) (stays m ρ c 1 10 main_v4) (stays m ρ c 1 10 main_v5)
    (ops3_edges (W12 m ρ c)) (stays m ρ c 1 11 main_v1) (stays m ρ c 1 11 main_v3) (stays m ρ c 1 11 main_v7)
    (stays m ρ c 11 1 main_v112)
    (stays m ρ c 12 1 main_v115_0) (stays m ρ c 11 2 main_v112) (stays m ρ c 12 1 main_v115_1)

/-- Block 2 takes the network's step. -/
theorem block2 (src dst : IVec S320000 32) (S : Net.State Ideal)
    (hp : 0 < Net.sqNorm (F := Ideal) (arg m c main_arg8) ValueIdx.ix0)
    (hsrc : W13 m ρ c (Proc.devRef .tc main_v1) = src) (hdst : W13 m ρ c (Proc.devRef .tc main_v3) = dst)
    (hbc : W13 m ρ c (Proc.devRef .tc main_v4) = broadcastInDim S10000x1 ![0] bcast_S10000_S10000x1_0
      (arg m c main_arg2))
    (hbr : W13 m ρ c (Proc.devRef .tc main_v5) = broadcastInDim S1x10000 ![1] bcast_S10000_S1x10000_1
      (arg m c main_arg2))
    (hx : W13 m ρ c (Proc.devRef .tc main_v115_0) = S.x) (halive : W13 m ρ c (Proc.devRef .tc main_v112) = S.alive)
    (hlive : W13 m ρ c (Proc.devRef .tc main_v131) = S.live) :
    let T := Net.step (arg m c main_arg2) src dst (arg m c main_arg6) (arg m c main_arg7) (arg m c main_arg8) S
    W25 m ρ c (Proc.devRef .tc main_v239_0) = T.x ∧ W25 m ρ c (Proc.devRef .tc main_v236) = T.alive ∧
      W25 m ρ c (Proc.devRef .tc main_v255) = T.live ∧
      W25 m ρ c (Proc.devRef .tc main_v239_1) = Net.readout (arg m c main_arg2) T.alive T.x :=
  block_of (arg m c main_arg2) src dst (arg m c main_arg6) (arg m c main_arg7) (arg m c main_arg8) S hp
    hx halive hlive hsrc hdst hbc hbr
    ((W14_arr m ρ c 2).trans (region3 (V13 m ρ) c)) (W13_args m ρ c main_arg6 (by decide))
    (ops4_agg (W14 m ρ c)) (ops4_self (W14 m ρ c)) (ops4_bias (W14 m ρ c)) (ops4_p (W14 m ρ c))
    (stays m ρ c 13 1 main_v1) (stays m ρ c 13 1 main_v3) (stays m ρ c 13 1 main_v131)
    (W14_args m ρ c main_arg7 (by decide)) (W14_args m ρ c main_arg8 (by decide))
    ((W16_arr m ρ c 5).trans (region4_out (V15 m ρ) c)) ((W16_arr m ρ c 6).trans (region4_score (V15 m ρ) c))
    (stays m ρ c 14 1 main_v132)
    (ops5_order (W16 m ρ c)) (W16_args m ρ c main_arg2 (by decide)) (stays m ρ c 13 3 main_v112)
    (ops5_sizes (W20 m ρ c)) (W20_args m ρ c main_arg2 (by decide))
    (ops5_ends (W21 m ρ c)) (W21_args m ρ c main_arg2 (by decide))
    (ops5_keep (W22 m ρ c)) (W22_args m ρ c main_arg2 (by decide)) (stays m ρ c 13 9 main_v112)
    (stays m ρ c 20 2 main_v188) (stays m ρ c 21 1 main_v192)
    (ops5_mask (W22 m ρ c)) ((W24_arr m ρ c 5).trans (region5_gate (V23 m ρ) c))
    ((W24_arr m ρ c 6).trans (region5_readout (V23 m ρ) c))
    (stays m ρ c 16 7 main_v184_0) (stays m ρ c 16 7 main_v184_1) (stays m ρ c 13 10 main_v4)
    (stays m ρ c 13 10 main_v5)
    (ops6_edges (W24 m ρ c)) (stays m ρ c 13 11 main_v1) (stays m ρ c 13 11 main_v3) (stays m ρ c 13 11 main_v131)
    (stays m ρ c 23 1 main_v236)
    (stays m ρ c 24 1 main_v239_0) (stays m ρ c 23 2 main_v236) (stays m ρ c 24 1 main_v239_1)

/-- Block 3 takes the network's step. -/
theorem block3 (src dst : IVec S320000 32) (S : Net.State Ideal)
    (hp : 0 < Net.sqNorm (F := Ideal) (arg m c main_arg11) ValueIdx.ix0)
    (hsrc : W25 m ρ c (Proc.devRef .tc main_v1) = src) (hdst : W25 m ρ c (Proc.devRef .tc main_v3) = dst)
    (hbc : W25 m ρ c (Proc.devRef .tc main_v4) = broadcastInDim S10000x1 ![0] bcast_S10000_S10000x1_0
      (arg m c main_arg2))
    (hbr : W25 m ρ c (Proc.devRef .tc main_v5) = broadcastInDim S1x10000 ![1] bcast_S10000_S1x10000_1
      (arg m c main_arg2))
    (hx : W25 m ρ c (Proc.devRef .tc main_v239_0) = S.x) (halive : W25 m ρ c (Proc.devRef .tc main_v236) = S.alive)
    (hlive : W25 m ρ c (Proc.devRef .tc main_v255) = S.live) :
    let T := Net.step (arg m c main_arg2) src dst (arg m c main_arg9) (arg m c main_arg10) (arg m c main_arg11) S
    W37 m ρ c (Proc.devRef .tc main_v363_0) = T.x ∧ W37 m ρ c (Proc.devRef .tc main_v360) = T.alive ∧
      W37 m ρ c (Proc.devRef .tc main_v379) = T.live ∧
      W37 m ρ c (Proc.devRef .tc main_v363_1) = Net.readout (arg m c main_arg2) T.alive T.x :=
  block_of (arg m c main_arg2) src dst (arg m c main_arg9) (arg m c main_arg10) (arg m c main_arg11) S hp
    hx halive hlive hsrc hdst hbc hbr
    ((W26_arr m ρ c 2).trans (region6 (V25 m ρ) c)) (W25_args m ρ c main_arg9 (by decide))
    (ops7_agg (W26 m ρ c)) (ops7_self (W26 m ρ c)) (ops7_bias (W26 m ρ c)) (ops7_p (W26 m ρ c))
    (stays m ρ c 25 1 main_v1) (stays m ρ c 25 1 main_v3) (stays m ρ c 25 1 main_v255)
    (W26_args m ρ c main_arg10 (by decide)) (W26_args m ρ c main_arg11 (by decide))
    ((W28_arr m ρ c 5).trans (region7_out (V27 m ρ) c)) ((W28_arr m ρ c 6).trans (region7_score (V27 m ρ) c))
    (stays m ρ c 26 1 main_v256)
    (ops8_order (W28 m ρ c)) (W28_args m ρ c main_arg2 (by decide)) (stays m ρ c 25 3 main_v236)
    (ops8_sizes (W32 m ρ c)) (W32_args m ρ c main_arg2 (by decide))
    (ops8_ends (W33 m ρ c)) (W33_args m ρ c main_arg2 (by decide))
    (ops8_keep (W34 m ρ c)) (W34_args m ρ c main_arg2 (by decide)) (stays m ρ c 25 9 main_v236)
    (stays m ρ c 32 2 main_v312) (stays m ρ c 33 1 main_v316)
    (ops8_mask (W34 m ρ c)) ((W36_arr m ρ c 5).trans (region8_gate (V35 m ρ) c))
    ((W36_arr m ρ c 6).trans (region8_readout (V35 m ρ) c))
    (stays m ρ c 28 7 main_v308_0) (stays m ρ c 28 7 main_v308_1) (stays m ρ c 25 10 main_v4)
    (stays m ρ c 25 10 main_v5)
    (ops9_edges (W36 m ρ c)) (stays m ρ c 25 11 main_v1) (stays m ρ c 25 11 main_v3) (stays m ρ c 25 11 main_v255)
    (stays m ρ c 35 1 main_v360)
    (stays m ρ c 36 1 main_v363_0) (stays m ρ c 35 2 main_v360) (stays m ρ c 36 1 main_v363_1)

/-- Block 4 takes the network's step. -/
theorem block4 (src dst : IVec S320000 32) (S : Net.State Ideal)
    (hp : 0 < Net.sqNorm (F := Ideal) (arg m c main_arg14) ValueIdx.ix0)
    (hsrc : W37 m ρ c (Proc.devRef .tc main_v1) = src) (hdst : W37 m ρ c (Proc.devRef .tc main_v3) = dst)
    (hbc : W37 m ρ c (Proc.devRef .tc main_v4) = broadcastInDim S10000x1 ![0] bcast_S10000_S10000x1_0
      (arg m c main_arg2))
    (hbr : W37 m ρ c (Proc.devRef .tc main_v5) = broadcastInDim S1x10000 ![1] bcast_S10000_S1x10000_1
      (arg m c main_arg2))
    (hx : W37 m ρ c (Proc.devRef .tc main_v363_0) = S.x) (halive : W37 m ρ c (Proc.devRef .tc main_v360) = S.alive)
    (hlive : W37 m ρ c (Proc.devRef .tc main_v379) = S.live) :
    let T := Net.step (arg m c main_arg2) src dst (arg m c main_arg12) (arg m c main_arg13) (arg m c main_arg14) S
    W48 m ρ c (Proc.devRef .tc main_v487_1) = Net.readout (arg m c main_arg2) T.alive T.x :=
  (block_of (arg m c main_arg2) src dst (arg m c main_arg12) (arg m c main_arg13) (arg m c main_arg14) S hp
    hx halive hlive hsrc hdst hbc hbr
    ((W38_arr m ρ c 2).trans (region9 (V37 m ρ) c)) (W37_args m ρ c main_arg12 (by decide))
    (ops10_agg (W38 m ρ c)) (ops10_self (W38 m ρ c)) (ops10_bias (W38 m ρ c)) (ops10_p (W38 m ρ c))
    (stays m ρ c 37 1 main_v1) (stays m ρ c 37 1 main_v3) (stays m ρ c 37 1 main_v379)
    (W38_args m ρ c main_arg13 (by decide)) (W38_args m ρ c main_arg14 (by decide))
    ((W40_arr m ρ c 5).trans (region10_out (V39 m ρ) c)) ((W40_arr m ρ c 6).trans (region10_score (V39 m ρ) c))
    (stays m ρ c 38 1 main_v380)
    (ops11_order (W40 m ρ c)) (W40_args m ρ c main_arg2 (by decide)) (stays m ρ c 37 3 main_v360)
    (ops11_sizes (W44 m ρ c)) (W44_args m ρ c main_arg2 (by decide))
    (ops11_ends (W45 m ρ c)) (W45_args m ρ c main_arg2 (by decide))
    (ops11_keep (W46 m ρ c)) (W46_args m ρ c main_arg2 (by decide)) (stays m ρ c 37 9 main_v360)
    (stays m ρ c 44 2 main_v436) (stays m ρ c 45 1 main_v440)
    (ops11_mask (W46 m ρ c)) ((W48_arr m ρ c 5).trans (region11_gate (V47 m ρ) c))
    ((W48_arr m ρ c 6).trans (region11_readout (V47 m ρ) c))
    (stays m ρ c 40 7 main_v432_0) (stays m ρ c 40 7 main_v432_1) (stays m ρ c 37 10 main_v4)
    (stays m ρ c 37 10 main_v5)
    rfl rfl rfl rfl rfl rfl rfl rfl).2.2.2

end Cert.KernelIdeal.Val

end
-- ==== Proof.Output.lean ====
/-
  The kernel's output over the extended reals: the network of its arguments, where the four score vectors have positive
  norms.
-/
module

public import proofs.«01_k».proof.Proof.Blocks

@[expose] public section

set_option maxRecDepth 16384
set_option maxHeartbeats 2000000

noncomputable section

namespace Cert.KernelIdeal.Val

open Idealize.ShloMosaic Idealize.ShloMosaic.TcCoe Idealize.SL Idealize.SL.Sem Idealize.ShloMosaic.StableHlo
open Cert.KernelIdeal Cert.KernelIdeal.Gen

/-- The head at equal inputs. -/
theorem head_of {a b c d a' b' c' d' : FVec Ideal S16x256 .f32} {w w' : FVec Ideal S256x128 .f32}
    {u u' : FVec Ideal S128x64 .f32}
    {v v' : FVec Ideal S64x10 .f32} {z : FVec Ideal S16x256 .f32} {p : FVec Ideal S1x128 .f32}
        {q : FVec Ideal S1x64 .f32}
    {r : FVec Ideal S1x10 .f32} {p₀ p' : FVec Ideal S128 .f32} {q₀ q' : FVec Ideal S64 .f32}
    {r₀ r' : FVec Ideal S10 .f32}
    (hz : z = addf (addf (addf a b) c) d) (ha : a = a') (hb : b = b') (hc : c = c') (hd : d = d') (hw : w = w')
        (hu : u = u')
    (hv : v = v') (hp : p = broadcastInDim S1x128 ![1] bcast_S128_S1x128_1 p₀)
    (hq : q = broadcastInDim S1x64 ![1] bcast_S64_S1x64_1 q₀) (hr : r = broadcastInDim S1x10 ![1] bcast_S10_S1x10_1 r₀)
    (hp' : p₀ = p') (hq' : q₀ = q') (hr' : r₀ = r') :
    k12_pay1 z w p u q v r = Net.logSoftmax (Net.logits (addf (addf (addf a' b') c') d') w' p' u' q' v' r') := by
  subst hz ha hb hc hd hw hu hv hp hq hr hp' hq' hr'
  exact head_eq _ _ _ _ _ _ _

section
variable (m : (ℓ : Loc nD τ sig) → Buf (Elt Ideal) ℓ) (ρ : Dev nD → PrngReg) (c : Dev nD)

/-- The network's state before the first block, and after each. -/
abbrev state0 : Net.State Ideal := ⟨arg m c main_arg0, Net.allNodes, Net.allEdges⟩
/-- The state after block 1. -/
abbrev state1 : Net.State Ideal := Net.step (arg m c main_arg2) (Net.srcOf (arg m c main_arg1))
    (Net.dstOf (arg m c main_arg1))
  (arg m c main_arg3) (arg m c main_arg4) (arg m c main_arg5) (state0 m c)
/-- The state after block 2. -/
abbrev state2 : Net.State Ideal := Net.step (arg m c main_arg2) (Net.srcOf (arg m c main_arg1))
    (Net.dstOf (arg m c main_arg1))
  (arg m c main_arg6) (arg m c main_arg7) (arg m c main_arg8) (state1 m c)
/-- The state after block 3. -/
abbrev state3 : Net.State Ideal := Net.step (arg m c main_arg2) (Net.srcOf (arg m c main_arg1))
    (Net.dstOf (arg m c main_arg1))
  (arg m c main_arg9) (arg m c main_arg10) (arg m c main_arg11) (state2 m c)
/-- The state after block 4. -/
abbrev state4 : Net.State Ideal := Net.step (arg m c main_arg2) (Net.srcOf (arg m c main_arg1))
    (Net.dstOf (arg m c main_arg1))
  (arg m c main_arg12) (arg m c main_arg13) (arg m c main_arg14) (state3 m c)

/-- The arrays the blocks share, before the first of them. -/
theorem first : W1 m ρ c (Proc.devRef .tc main_v1) = Net.srcOf (arg m c main_arg1) ∧ W1 m ρ c (Proc.devRef .tc main_v3)
    = Net.dstOf (arg m c main_arg1) ∧
    W1 m ρ c (Proc.devRef .tc main_v4) = broadcastInDim S10000x1 ![0] bcast_S10000_S10000x1_0 (arg m c main_arg2) ∧
    W1 m ρ c (Proc.devRef .tc main_v5) = broadcastInDim S1x10000 ![1] bcast_S10000_S1x10000_1 (arg m c main_arg2) :=
  ⟨ops0_src (W0 m ρ c), ops0_dst (W0 m ρ c), ops0_batchCol (W0 m ρ c), ops0_batchRow (W0 m ρ c)⟩

/-- After block 1 the kernel's arrays hold the features, the nodes, the edges and the readout of the network's state. -/
theorem after1 (h1 : 0 < Net.sqNorm (F := Ideal) (arg m c main_arg5) ValueIdx.ix0) :
    W13 m ρ c (Proc.devRef .tc main_v115_0) = (state1 m c).x ∧
    W13 m ρ c (Proc.devRef .tc main_v112) = (state1 m c).alive ∧
    W13 m ρ c (Proc.devRef .tc main_v131) = (state1 m c).live ∧
    W13 m ρ c (Proc.devRef .tc main_v115_1) = Net.readout (arg m c main_arg2) (state1 m c).alive (state1 m c).x := by
  obtain ⟨s, d, bc, br⟩ := first m ρ c
  exact block1 m ρ c _ _ (state0 m c) h1 s d bc br (W1_args m ρ c main_arg0 (by decide)) (ops0_nodes (W0 m ρ c))
    (ops0_edges (W0 m ρ c))

/-- After block 2 the kernel's arrays hold the features, the nodes, the edges and the readout of the network's state. -/
theorem after2 (h1 : 0 < Net.sqNorm (F := Ideal) (arg m c main_arg5) ValueIdx.ix0)
    (h2 : 0 < Net.sqNorm (F := Ideal) (arg m c main_arg8) ValueIdx.ix0) :
    W25 m ρ c (Proc.devRef .tc main_v239_0) = (state2 m c).x ∧
    W25 m ρ c (Proc.devRef .tc main_v236) = (state2 m c).alive ∧
    W25 m ρ c (Proc.devRef .tc main_v255) = (state2 m c).live ∧
    W25 m ρ c (Proc.devRef .tc main_v239_1) = Net.readout (arg m c main_arg2) (state2 m c).alive (state2 m c).x := by
  obtain ⟨s, d, bc, br⟩ := first m ρ c
  obtain ⟨x, a, l, -⟩ := after1 m ρ c h1
  exact block2 m ρ c _ _ (state1 m c) h2 (Eq.trans (stays m ρ c 1 12 main_v1) s)
    (Eq.trans (stays m ρ c 1 12 main_v3) d) (Eq.trans (stays m ρ c 1 12 main_v4) bc)
    (Eq.trans (stays m ρ c 1 12 main_v5) br) x a l

/-- After block 3 the kernel's arrays hold the features, the nodes, the edges and the readout of the network's state. -/
theorem after3 (h1 : 0 < Net.sqNorm (F := Ideal) (arg m c main_arg5) ValueIdx.ix0)
    (h2 : 0 < Net.sqNorm (F := Ideal) (arg m c main_arg8) ValueIdx.ix0)
    (h3 : 0 < Net.sqNorm (F := Ideal) (arg m c main_arg11) ValueIdx.ix0) :
    W37 m ρ c (Proc.devRef .tc main_v363_0) = (state3 m c).x ∧
    W37 m ρ c (Proc.devRef .tc main_v360) = (state3 m c).alive ∧
    W37 m ρ c (Proc.devRef .tc main_v379) = (state3 m c).live ∧
    W37 m ρ c (Proc.devRef .tc main_v363_1) = Net.readout (arg m c main_arg2) (state3 m c).alive (state3 m c).x := by
  obtain ⟨s, d, bc, br⟩ := first m ρ c
  obtain ⟨x, a, l, -⟩ := after2 m ρ c h1 h2
  exact block3 m ρ c _ _ (state2 m c) h3 (Eq.trans (stays m ρ c 1 24 main_v1) s)
    (Eq.trans (stays m ρ c 1 24 main_v3) d) (Eq.trans (stays m ρ c 1 24 main_v4) bc)
    (Eq.trans (stays m ρ c 1 24 main_v5) br) x a l

/-- After block 4 the kernel's arrays hold the readout of the network's state. -/
theorem after4 (h1 : 0 < Net.sqNorm (F := Ideal) (arg m c main_arg5) ValueIdx.ix0)
    (h2 : 0 < Net.sqNorm (F := Ideal) (arg m c main_arg8) ValueIdx.ix0)
    (h3 : 0 < Net.sqNorm (F := Ideal) (arg m c main_arg11) ValueIdx.ix0)
    (h4 : 0 < Net.sqNorm (F := Ideal) (arg m c main_arg14) ValueIdx.ix0) :
    W48 m ρ c (Proc.devRef .tc main_v487_1) = Net.readout (arg m c main_arg2) (state4 m c).alive (state4 m c).x := by
  obtain ⟨s, d, bc, br⟩ := first m ρ c
  obtain ⟨x, a, l, -⟩ := after3 m ρ c h1 h2 h3
  exact block4 m ρ c _ _ (state3 m c) h4 (Eq.trans (stays m ρ c 1 36 main_v1) s)
    (Eq.trans (stays m ρ c 1 36 main_v3) d) (Eq.trans (stays m ρ c 1 36 main_v4) bc)
    (Eq.trans (stays m ρ c 1 36 main_v5) br) x a l

/-- The kernel's output is the network of its arguments. -/
theorem output (h1 : 0 < Net.sqNorm (F := Ideal) (arg m c main_arg5) ValueIdx.ix0)
    (h2 : 0 < Net.sqNorm (F := Ideal) (arg m c main_arg8) ValueIdx.ix0)
    (h3 : 0 < Net.sqNorm (F := Ideal) (arg m c main_arg11) ValueIdx.ix0)
    (h4 : 0 < Net.sqNorm (F := Ideal) (arg m c main_arg14) ValueIdx.ix0) :
    W50 m ρ c (Proc.devRef .tc main_v510) = Net.network (F := Ideal) (arg m c main_arg0) (arg m c main_arg1)
        (arg m c main_arg2) (arg m c main_arg3) (arg m c main_arg4) (arg m c main_arg5) (arg m c main_arg6)
        (arg m c main_arg7) (arg m c main_arg8) (arg m c main_arg9) (arg m c main_arg10) (arg m c main_arg11)
        (arg m c main_arg12) (arg m c main_arg13) (arg m c main_arg14) (arg m c main_arg15) (arg m c main_arg16)
        (arg m c main_arg17) (arg m c main_arg18) (arg m c main_arg19) (arg m c main_arg20) := by
  have r1 := (after1 m ρ c h1).2.2.2
  have r2 := (after2 m ρ c h1 h2).2.2.2
  have r3 := (after3 m ρ c h1 h2 h3).2.2.2
  have r4 := after4 m ρ c h1 h2 h3 h4
  have r1' := Eq.trans (a := W48 m ρ c (Proc.devRef .tc main_v115_1)) (stays m ρ c 13 35 main_v115_1) r1
  have r2' := Eq.trans (a := W48 m ρ c (Proc.devRef .tc main_v239_1)) (stays m ρ c 25 23 main_v239_1) r2
  have r3' := Eq.trans (a := W48 m ρ c (Proc.devRef .tc main_v363_1)) (stays m ρ c 37 11 main_v363_1) r3
  have z := ops12_sum (W48 m ρ c)
  have a15 := W49_args m ρ c main_arg15 (by decide)
  have a17 := W49_args m ρ c main_arg17 (by decide)
  have a19 := W49_args m ρ c main_arg19 (by decide)
  have a16 := W48_args m ρ c main_arg16 (by decide)
  have a18 := W48_args m ρ c main_arg18 (by decide)
  have a20 := W48_args m ρ c main_arg20 (by decide)
  have b1 := ops12_b1 (W48 m ρ c)
  have b2 := ops12_b2 (W48 m ρ c)
  have b3 := ops12_b3 (W48 m ρ c)
  have key := head_of z r1' r2' r3' r4 a15 a17 a19 b1 b2 b3 a16 a18 a20
  exact (W50_arr m ρ c 7).trans ((region12 (V49 m ρ) c).trans key)

end

end Cert.KernelIdeal.Val

end
-- ==== Proof.Run.lean ====
/-
  The kernel's run at any float instance: every array ends as the fold over its calls and host operations leaves it.
-/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem
open Cert.KernelIdeal Cert.KernelIdeal.Gen

variable {F : FTy → Type} [FloatOps F] (m : (ℓ : Loc nD τ sig) → Buf (Elt F) ℓ) (ρ : Dev nD → PrngReg)

set_option backward.isDefEq.respectTransparency.types false in
/-- The output and the arguments end at the contents after the last call. -/
theorem run_last : θ_run defs (onTc (τ := τ) (main (F := F))) ⟨m, fun _ => 0, ρ⟩ (fun r => ∀ c : Dev nD,
    ∀ b ∈ Pipeline.ucRefs τ sig, r.2.mem (((c : Thread nD τ)).1, b) = W50 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W50 m ρ c b)
    (hfin := fun c s' => by
      iintro ⟨⟨Hh, -⟩, HSI⟩
      unfold StableHlo.held
      imodintro
      iapply (pointsTo_read_all (Pipeline.ucRefs τ sig) (fun b => (((c : Thread nD τ)).1, b)) (W50 m ρ c) s')
      isplitl [Hh] <;> iassumption)
    (hQ := fun _ h _ => h)

end Cert.KernelIdeal.Val

end
-- ==== Proof.Reference.lean ====
/-
  What the reference leaves: its named intermediate arrays are the stages of `Net.lean`, block after block.
-/
module

public import proofs.«01_k».proof.Proof.Net

@[expose] public section

set_option maxRecDepth 16384

noncomputable section

namespace Cert.Net

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F] (V : Valuation τ sig (Elt F))

/-- The edges' sources. -/
theorem ref_src : res_main_v1 V = srcOf (V (Proc.devRef .tc main_arg1)) := rfl
/-- The edges' destinations. -/
theorem ref_dst : res_main_v3 V = dstOf (V (Proc.devRef .tc main_arg1)) := rfl

/-- Block 1's convolution. -/
theorem ref_conv1 : res_main_v62 V = convolve (res_main_v1 V) (res_main_v3 V) (res_main_v5 V)
    (V (Proc.devRef .tc main_arg0)) (V (Proc.devRef .tc main_arg3)) (V (Proc.devRef .tc main_arg4)) := rfl
/-- Block 1's scores. -/
theorem ref_score1 : res_main_v67 V = score (res_main_v62 V) (V (Proc.devRef .tc main_arg5)) := rfl
/-- The nodes that block 1 keeps. -/
theorem ref_keep1 : res_main_v118 V = keep (V (Proc.devRef .tc main_arg2)) (res_main_v4 V) (res_main_v67 V) := rfl
/-- Block 1's gated features. -/
theorem ref_gate1 : res_main_v125 V = gate (res_main_v62 V) (res_main_v67 V) (res_main_v118 V) := rfl
/-- The edges that block 1 keeps. -/
theorem ref_edges1 : res_main_v141 V = keepEdges (res_main_v1 V) (res_main_v3 V) (res_main_v5 V) (res_main_v118 V) := rfl

/-- Block 2's convolution. -/
theorem ref_conv2 : res_main_v221 V = convolve (res_main_v1 V) (res_main_v3 V) (res_main_v141 V)
    (res_main_v125 V) (V (Proc.devRef .tc main_arg6)) (V (Proc.devRef .tc main_arg7)) := rfl
/-- Block 2's scores. -/
theorem ref_score2 : res_main_v226 V = score (res_main_v221 V) (V (Proc.devRef .tc main_arg8)) := rfl
/-- The nodes that block 2 keeps. -/
theorem ref_keep2 : res_main_v277 V = keep (V (Proc.devRef .tc main_arg2)) (res_main_v118 V) (res_main_v226 V) := rfl
/-- Block 2's gated features. -/
theorem ref_gate2 : res_main_v284 V = gate (res_main_v221 V) (res_main_v226 V) (res_main_v277 V) := rfl
/-- The edges that block 2 keeps. -/
theorem ref_edges2 : res_main_v300 V = keepEdges (res_main_v1 V) (res_main_v3 V) (res_main_v141 V) (res_main_v277 V) := rfl

/-- Block 3's convolution. -/
theorem ref_conv3 : res_main_v380 V = convolve (res_main_v1 V) (res_main_v3 V) (res_main_v300 V)
    (res_main_v284 V) (V (Proc.devRef .tc main_arg9)) (V (Proc.devRef .tc main_arg10)) := rfl
/-- Block 3's scores. -/
theorem ref_score3 : res_main_v385 V = score (res_main_v380 V) (V (Proc.devRef .tc main_arg11)) := rfl
/-- The nodes that block 3 keeps. -/
theorem ref_keep3 : res_main_v436 V = keep (V (Proc.devRef .tc main_arg2)) (res_main_v277 V) (res_main_v385 V) := rfl
/-- Block 3's gated features. -/
theorem ref_gate3 : res_main_v443 V = gate (res_main_v380 V) (res_main_v385 V) (res_main_v436 V) := rfl
/-- The edges that block 3 keeps. -/
theorem ref_edges3 : res_main_v459 V = keepEdges (res_main_v1 V) (res_main_v3 V) (res_main_v300 V) (res_main_v436 V) := rfl

/-- Block 4's convolution. -/
theorem ref_conv4 : res_main_v539 V = convolve (res_main_v1 V) (res_main_v3 V) (res_main_v459 V)
    (res_main_v443 V) (V (Proc.devRef .tc main_arg12)) (V (Proc.devRef .tc main_arg13)) := rfl
/-- Block 4's scores. -/
theorem ref_score4 : res_main_v544 V = score (res_main_v539 V) (V (Proc.devRef .tc main_arg14)) := rfl
/-- The nodes that block 4 keeps. -/
theorem ref_keep4 : res_main_v595 V = keep (V (Proc.devRef .tc main_arg2)) (res_main_v436 V) (res_main_v544 V) := rfl
/-- Block 4's gated features. -/
theorem ref_gate4 : res_main_v602 V = gate (res_main_v539 V) (res_main_v544 V) (res_main_v595 V) := rfl

/-- The head's logits, from the sum of the four readouts. -/
theorem ref_logits : res_main_v658 V = logits
    (addf (addf (addf
        (readout (V (Proc.devRef .tc main_arg2)) (res_main_v118 V) (res_main_v125 V))
        (readout (V (Proc.devRef .tc main_arg2)) (res_main_v277 V) (res_main_v284 V)))
        (readout (V (Proc.devRef .tc main_arg2)) (res_main_v436 V) (res_main_v443 V)))
        (readout (V (Proc.devRef .tc main_arg2)) (res_main_v595 V) (res_main_v602 V)))
    (V (Proc.devRef .tc main_arg15)) (V (Proc.devRef .tc main_arg16)) (V (Proc.devRef .tc main_arg17))
    (V (Proc.devRef .tc main_arg18)) (V (Proc.devRef .tc main_arg19)) (V (Proc.devRef .tc main_arg20)) := rfl
/-- The logits less their row's largest. -/
theorem ref_shifted : res_main_call30_v5 V = shifted (res_main_v658 V) := rfl

/-- The reference's output is the network of its arguments. -/
theorem ref_network : logSoftmax (res_main_v658 V) = network
    (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) (V (Proc.devRef .tc main_arg8))
    (V (Proc.devRef .tc main_arg9)) (V (Proc.devRef .tc main_arg10)) (V (Proc.devRef .tc main_arg11))
    (V (Proc.devRef .tc main_arg12)) (V (Proc.devRef .tc main_arg13)) (V (Proc.devRef .tc main_arg14))
    (V (Proc.devRef .tc main_arg15)) (V (Proc.devRef .tc main_arg16)) (V (Proc.devRef .tc main_arg17))
    (V (Proc.devRef .tc main_arg18)) (V (Proc.devRef .tc main_arg19)) (V (Proc.devRef .tc main_arg20)) := by
  have e4 : res_main_v4 V = allNodes := rfl
  have e5 : res_main_v5 V = allEdges := rfl
  rw [ref_logits, ref_gate4, ref_keep4, ref_score4, ref_conv4, ref_edges3, ref_gate3, ref_keep3, ref_score3, ref_conv3,
    ref_edges2, ref_gate2, ref_keep2, ref_score2, ref_conv2, ref_edges1, ref_gate1, ref_keep1, ref_score1, ref_conv1,
    ref_src, ref_dst, e4, e5]
  rfl

end Cert.Net

end
-- ==== Proof.Algebraic.lean ====
/-
  The algebraic claim: over the extended reals the kernel and the reference both end at the network of their arguments.
-/
module

public import proofs.«01_k».proof.Defs
public import proofs.«01_k».proof.Proof.Output
public import proofs.«01_k».proof.Proof.Run
public import proofs.«01_k».proof.Proof.Reference
public import Idealize.ShloMosaic.Lib.Affine
public import Idealize.ShloMosaic.Lib.Quiescent

@[expose] public section

set_option maxRecDepth 16384

noncomputable section

namespace Cert.Net

open Idealize.ShloMosaic Idealize.ShloMosaic.TcCoe Idealize.SL.Sem

/-- The shape relations the precondition states. -/
theorem scoredFacts : Cert.Pre_scored.Facts := ⟨by decide, by decide⟩

/-- A comparison with zero that holds. -/
theorem pos_of (x : EReal) (h : FloatOps.cmpf (F := Ideal) (φ := .f32) .ogt x (Ideal.ofBits .f32 0x00000000#32) = 1#1) :
    0 < x := by
  have h0 : Ideal.ofBits .f32 0x00000000#32 = 0 := Ideal.ofBits_zero .f32
  rw [h0] at h
  by_contra hx
  have : FloatOps.cmpf (F := Ideal) (φ := .f32) .ogt x (0 : EReal) = 0#1 := by
    show BitVec.ofBool (decide ((0 : EReal) < x)) = 0#1
    rw [decide_eq_false hx]; rfl
  rw [this] at h
  exact absurd h (by decide)

section
attribute [local instance] scoredFacts

/-- The precondition: each of the four score vectors has a positive norm. -/
theorem norms (m : (ℓ : Loc Cert.KernelIdeal.nD Cert.KernelIdeal.τ Cert.KernelIdeal.sig) → Buf (Elt Ideal) ℓ)
    (h : Cert.Pre_KernelIdeal_scored m) (c : Dev Cert.KernelIdeal.nD) :
    0 < sqNorm (F := Ideal) (m ((c.tc : Thread Cert.KernelIdeal.nD Cert.KernelIdeal.τ).loc Cert.KernelIdeal.main_arg5)) ValueIdx.ix0 ∧
    0 < sqNorm (F := Ideal) (m ((c.tc : Thread Cert.KernelIdeal.nD Cert.KernelIdeal.τ).loc Cert.KernelIdeal.main_arg8)) ValueIdx.ix0 ∧
    0 < sqNorm (F := Ideal) (m ((c.tc : Thread Cert.KernelIdeal.nD Cert.KernelIdeal.τ).loc Cert.KernelIdeal.main_arg11)) ValueIdx.ix0 ∧
    0 < sqNorm (F := Ideal) (m ((c.tc : Thread Cert.KernelIdeal.nD Cert.KernelIdeal.τ).loc Cert.KernelIdeal.main_arg14)) ValueIdx.ix0 := by
  have e := congrFun (h c) ValueIdx.ix0
  have n1 := IntOp.andi_eq_one.1 e
  have n2 := IntOp.andi_eq_one.1 n1.1
  have n3 := IntOp.andi_eq_one.1 n2.1
  exact ⟨pos_of _ n3.1, pos_of _ n3.2, pos_of _ n2.2, pos_of _ n1.2⟩

end

/-- The network of the kernel's arguments. -/
abbrev target (m : (ℓ : Loc Cert.KernelIdeal.nD Cert.KernelIdeal.τ Cert.KernelIdeal.sig) → Buf (Elt Ideal) ℓ)
    (c : Dev Cert.KernelIdeal.nD) : FVec Ideal Cert.KernelIdeal.S16x10 .f32 :=
  network
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))

/-- The network at equal arguments. -/
theorem network_of
    {a0 b0 : FVec Ideal Cert.ReferenceIdeal.S10000x128 .f32}
    {a1 b1 : IVec Cert.ReferenceIdeal.S2x320000 32}
    {a2 b2 : IVec Cert.ReferenceIdeal.S10000 32}
    {a3 b3 : FVec Ideal Cert.ReferenceIdeal.S128x128 .f32}
    {a4 b4 : FVec Ideal Cert.ReferenceIdeal.S128 .f32}
    {a5 b5 : FVec Ideal Cert.ReferenceIdeal.S128 .f32}
    {a6 b6 : FVec Ideal Cert.ReferenceIdeal.S128x128 .f32}
    {a7 b7 : FVec Ideal Cert.ReferenceIdeal.S128 .f32}
    {a8 b8 : FVec Ideal Cert.ReferenceIdeal.S128 .f32}
    {a9 b9 : FVec Ideal Cert.ReferenceIdeal.S128x128 .f32}
    {a10 b10 : FVec Ideal Cert.ReferenceIdeal.S128 .f32}
    {a11 b11 : FVec Ideal Cert.ReferenceIdeal.S128 .f32}
    {a12 b12 : FVec Ideal Cert.ReferenceIdeal.S128x128 .f32}
    {a13 b13 : FVec Ideal Cert.ReferenceIdeal.S128 .f32}
    {a14 b14 : FVec Ideal Cert.ReferenceIdeal.S128 .f32}
    {a15 b15 : FVec Ideal Cert.ReferenceIdeal.S256x128 .f32}
    {a16 b16 : FVec Ideal Cert.ReferenceIdeal.S128 .f32}
    {a17 b17 : FVec Ideal Cert.ReferenceIdeal.S128x64 .f32}
    {a18 b18 : FVec Ideal Cert.ReferenceIdeal.S64 .f32}
    {a19 b19 : FVec Ideal Cert.ReferenceIdeal.S64x10 .f32}
    {a20 b20 : FVec Ideal Cert.ReferenceIdeal.S10 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    network a0 a1 a2 a3 a4 a5 a6 a7 a8 a9 a10 a11 a12 a13 a14 a15 a16 a17 a18 a19 a20
      = network b0 b1 b2 b3 b4 b5 b6 b7 b8 b9 b10 b11 b12 b13 b14 b15 b16 b17 b18 b19 b20 := by
  subst h0 h1 h2 h3 h4 h5 h6 h7 h8 h9 h10 h11 h12 h13 h14 h15 h16 h17 h18 h19 h20; rfl

/-- The claim. -/
theorem algebraic : Cert.algebraic_KernelIdeal_ReferenceIdeal_pre_scored (hPre_scored := scoredFacts) := by
  intro m ρ m' ρ' hpre hagree
  refine ⟨fun c => target m c, ?_, ?_⟩
  · refine (θ_run Cert.KernelIdeal.defs _ _).mono (fun r h c => ?_) (Cert.KernelIdeal.Val.run_last (F := Ideal) m ρ)
    obtain ⟨h1, h2, h3, h4⟩ := norms m hpre c
    have a (b : Ref Cert.KernelIdeal.sig .tc) (hb : b ∈ Cert.KernelIdeal.Gen.argRefs)
        (hs : ¬ (Proc.devRef .tc b : DevRef Cert.KernelIdeal.τ Cert.KernelIdeal.sig).isScoped) :
        r.2.mem ((c.tc : Thread Cert.KernelIdeal.nD Cert.KernelIdeal.τ).loc b) = m ((c.tc : Thread Cert.KernelIdeal.nD Cert.KernelIdeal.τ).loc b) :=
      (h c _ (Cert.KernelIdeal.Gen.mem_uc b hs)).trans (Cert.KernelIdeal.Gen.W50_args m ρ c b hb)
    exact ⟨(h c _ (Cert.KernelIdeal.Gen.mem_uc Cert.KernelIdeal.main_v510 (by decide))).trans
      (Cert.KernelIdeal.Val.output m ρ c h1 h2 h3 h4),
      a Cert.KernelIdeal.main_arg0 (by decide) (by decide), a Cert.KernelIdeal.main_arg1 (by decide) (by decide),
      a Cert.KernelIdeal.main_arg2 (by decide) (by decide), a Cert.KernelIdeal.main_arg3 (by decide) (by decide),
      a Cert.KernelIdeal.main_arg4 (by decide) (by decide), a Cert.KernelIdeal.main_arg5 (by decide) (by decide),
      a Cert.KernelIdeal.main_arg6 (by decide) (by decide), a Cert.KernelIdeal.main_arg7 (by decide) (by decide),
      a Cert.KernelIdeal.main_arg8 (by decide) (by decide), a Cert.KernelIdeal.main_arg9 (by decide) (by decide),
      a Cert.KernelIdeal.main_arg10 (by decide) (by decide), a Cert.KernelIdeal.main_arg11 (by decide) (by decide),
      a Cert.KernelIdeal.main_arg12 (by decide) (by decide), a Cert.KernelIdeal.main_arg13 (by decide) (by decide),
      a Cert.KernelIdeal.main_arg14 (by decide) (by decide), a Cert.KernelIdeal.main_arg15 (by decide) (by decide),
      a Cert.KernelIdeal.main_arg16 (by decide) (by decide), a Cert.KernelIdeal.main_arg17 (by decide) (by decide),
      a Cert.KernelIdeal.main_arg18 (by decide) (by decide), a Cert.KernelIdeal.main_arg19 (by decide) (by decide),
      a Cert.KernelIdeal.main_arg20 (by decide) (by decide)⟩
  · refine (θ_run Cert.ReferenceIdeal.defs _ _).mono (fun r h c => ⟨(h c).1.trans ?_, (h c).2⟩)
      (Cert.ReferenceIdeal.Value.run (F := Ideal) m' ρ')
    refine (ref_network (F := Ideal) (StableHlo.launchContents m' c)).trans ?_
    obtain ⟨g0, g1, g2, g3, g4, g5, g6, g7, g8, g9, g10, g11, g12, g13, g14, g15, g16, g17, g18, g19, g20⟩ := hagree c
    exact network_of g0 g1 g2 g3 g4 g5 g6 g7 g8 g9 g10 g11 g12 g13 g14 g15 g16 g17 g18 g19 g20

/-- The reference runs, leaves its arguments and has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Net

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every statement of the certificate, in order. -/
theorem claim : Cert.Claim := ⟨Cert.Kernel.Gen.facts, Cert.KernelIdeal.Gen.facts, Cert.ReferenceIdeal.Gen.facts, Cert.Net.scoredFacts,
  fun m ρ _ => Cert.Kernel.Gen.frame m ρ, fun m ρ _ => Cert.KernelIdeal.Gen.frame m ρ, fun m ρ _ => Cert.KernelIdeal.Gen.frame m ρ,
  Cert.Net.reference_frame, fun m ρ _ => Cert.Net.reference_frame m ρ trivial, trivial, Cert.Net.algebraic⟩

end Cert.Proof

end
